-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = Layout.block ⟨3, ![2, 256, 512]⟩ ⟨3, ![8, 256, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S8x256x16x64 : Shape := ⟨4, ![8, 256, 16, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S8x256x16x64 : S_.BroadcastsInDim S8x256x16x64 (![] : Fin 0 → Fin S8x256x16x64.rank)
  reducesTo_S8x256x16x64_S_d0_1_2_3 : S8x256x16x64.ReducesTo [0, 1, 2, 3] S_

variable [Facts]

def fn {F : FTy → Type} [FloatOps F] (main_arg0 : FVec F S2x256x512 .f32) (main_arg1 : FVec F S512x256 .f32) (main_arg2 : FVec F S8x256x16x64 .f32) (main_arg3 : FVec F S8x256x16x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S8x256x16x64 .f32 := Host.absf main_arg2
  let main_cst_2 : FVec F S_ .f32 := constant S_ .f32 0x7F800000#32
  let main_v10 : FVec F S8x256x16x64 .f32 := broadcastInDim S8x256x16x64 ![] bcast_S_S8x256x16x64 main_cst_2
  let main_v11 : IVec S8x256x16x64 1 := cmpf .olt main_v9 main_v10
  let main_c_3 : IVec S_ 1 := constantI S_ 1 1#1
  let main_v12 : IVec S_ 1 := (fun x v => Host.reduce IntOp.andi x v reducesTo_S8x256x16x64_S_d0_1_2_3 h_S_) main_v11 main_c_3
  let main_v13 : IVec S_ 1 := andi main_v8 main_v12
  main_v13
-- ==== Pre_finite_ReferenceIdeal.lean ====
abbrev S8x256x512 : Shape := ⟨3, ![8, 256, 512]⟩
abbrev S512x1024 : Shape := ⟨2, ![512, 1024]⟩
abbrev S8x256x16x64 : Shape := ⟨4, ![8, 256, 16, 64]⟩
abbrev S1024x512 : Shape := ⟨2, ![1024, 512]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S8x256x16x64 : S_.BroadcastsInDim S8x256x16x64 (![] : Fin 0 → Fin S8x256x16x64.rank)
  reducesTo_S8x256x16x64_S_d0_1_2_3 : S8x256x16x64.ReducesTo [0, 1, 2, 3] S_

variable [Facts]

def fn {F : FTy → Type} [FloatOps F] (main_arg0 : FVec F S8x256x512 .f32) (main_arg1 : FVec F S512x1024 .f32) (main_arg2 : FVec F S8x256x16x64 .f32) (main_arg3 : FVec F S8x256x16x64 .f32) (main_arg4 : FVec F S1024x512 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S8x256x16x64 .f32 := Host.absf main_arg2
  let main_cst_2 : FVec F S_ .f32 := constant S_ .f32 0x7F800000#32
  let main_v10 : FVec F S8x256x16x64 .f32 := broadcastInDim S8x256x16x64 ![] bcast_S_S8x256x16x64 main_cst_2
  let main_v11 : IVec S8x256x16x64 1 := cmpf .olt main_v9 main_v10
  let main_c_3 : IVec S_ 1 := constantI S_ 1 1#1
  let main_v12 : IVec S_ 1 := (fun x v => Host.reduce IntOp.andi x v reducesTo_S8x256x16x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S8x256x16x64 : Shape := ⟨4, ![8, 256, 16, 64]⟩
abbrev S256x512 : Shape := ⟨2, ![256, 512]⟩
abbrev S_ : Shape := ⟨0, ![]⟩
abbrev S2x256x16x64 : Shape := ⟨4, ![2, 256, 16, 64]⟩
abbrev S2x256x4x4x64 : Shape := ⟨5, ![2, 256, 4, 4, 64]⟩
abbrev S4x2x4x256x64 : Shape := ⟨5, ![4, 2, 4, 256, 64]⟩
abbrev S4x512x256 : Shape := ⟨3, ![4, 512, 256]⟩
abbrev S4x256x512 : Shape := ⟨3, ![4, 256, 512]⟩
abbrev S256x256 : Shape := ⟨2, ![256, 256]⟩
abbrev S2x2 : Shape := ⟨2, ![2, 2]⟩
abbrev S1x512x256 : Shape := ⟨3, ![1, 512, 256]⟩
abbrev S1x256x512 : Shape := ⟨3, ![1, 256, 512]⟩
abbrev S1x1 : Shape := ⟨2, ![1, 1]⟩
abbrev S256x64 : Shape := ⟨2, ![256, 64]⟩
abbrev S1x1x1x256x64 : Shape := ⟨5, ![1, 1, 1, 256, 64]⟩
abbrev S256 : Shape := ⟨1, ![256]⟩
abbrev S256x1 : Shape := ⟨2, ![256, 1]⟩
abbrev S1x256x256 : Shape := ⟨3, ![1, 256, 256]⟩
abbrev S1x128x512 : Shape := ⟨3, ![1, 128, 512]⟩
abbrev S128x512 : Shape := ⟨2, ![128, 512]⟩

abbrev nBuf : Space → Nat
  | .hbm => 40
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S8x256x16x64, .f32⟩
  | .hbm, ⟨3, _⟩ => ⟨S8x256x16x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x16x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x16x64, .f32⟩
  | .hbm, ⟨33, _⟩ => ⟨S2x256x4x4x64, .f32⟩
  | .hbm, ⟨34, _⟩ => ⟨S4x2x4x256x64, .f32⟩
  | .hbm, ⟨35, _⟩ => ⟨S4x2x4x256x64, .bf16⟩
  | .hbm, ⟨36, _⟩ => ⟨S2x256x4x4x64, .f32⟩
  | .hbm, ⟨37, _⟩ => ⟨S4x2x4x256x64, .f32⟩
  | .hbm, ⟨38, _⟩ => ⟨S4x2x4x256x64, .bf16⟩
  | .hbm, ⟨39, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S4x2x4x256x64, .bf16⟩
  | .local _ .vmem, ⟨3, _⟩ => ⟨S4x2x4x256x64, .bf16⟩
  | .local _ .vmem, ⟨4, _⟩ => ⟨S256x512, .f32⟩
  | .local _ .vmem, ⟨5, _⟩ => ⟨S2x256x512, .f32⟩
  | .local _ .vmem, ⟨6, _⟩ => ⟨S4x512x256, .bf16⟩
  | .local _ .vmem, ⟨7, _⟩ => ⟨S4x256x512, .bf16⟩
  | .local _ .vmem, ⟨8, _⟩ => ⟨S2x256x512, .bf16⟩
  | .local _ .vmem, ⟨9, _⟩ => ⟨S256x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v77 : Index := Scalar.indexCast v2
  let c0_27 : Index := 0#32
  let c0_28 : Index := 0#32
  ![v77.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v84 : Index := Scalar.indexCast v2
  let c0_31 : Index := 0#32
  let c0_32 : Index := 0#32
  ![v84.toNat, 0, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_39 : BitVec 32 := 0#32
  let c0_i32_40 : BitVec 32 := 0#32
  ![v2.toNat, 0, 0]
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_37 : BitVec 32 := 1#32
  let v88 : BitVec 32 := Scalar.muli v6 c1_i32_37
  let v89 : BitVec 32 := Scalar.addi c0_i32_38 v88
  v89.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_49 : BitVec 32 := 0#32
  let c0_i32_50 : BitVec 32 := 0#32
  ![v2.toNat, 0, 0]
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_47 : BitVec 32 := 1#32
  let v98 : BitVec 32 := Scalar.muli v6 c1_i32_47
  let v99 : BitVec 32 := Scalar.addi c0_i32_48 v98
  v99.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_57 : BitVec 32 := 1#32
  let v108 : BitVec 32 := Scalar.muli v4 c1_i32_57
  let v109 : BitVec 32 := Scalar.addi c0_i32_58 v108
  v109.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_67 : BitVec 32 := 1#32
  let v118 : BitVec 32 := Scalar.muli v4 c1_i32_67
  let v119 : BitVec 32 := Scalar.addi c0_i32_68 v118
  v119.toNat
def k0_off5 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v153 : Index := Scalar.indexCast v2
  let c0_92 : Index := 0#32
  let c0_93 : Index := 0#32
  let c0_94 : Index := 0#32
  let c0_95 : Index := 0#32
  ![v153.toNat, 0, 0, 0, 0]
def k0_off6 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v179 : Index := Scalar.indexCast v2
  let c0_108 : Index := 0#32
  let c1_109 : Index := 1#32
  let c0_110 : Index := 0#32
  let c0_111 : Index := 0#32
  ![v179.toNat, 0, 1, 0, 0]
def k0_off7 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v205 : Index := Scalar.indexCast v2
  let c0_123 : Index := 0#32
  let c2 : Index := 2#32
  let c0_124 : Index := 0#32
  let c0_125 : Index := 0#32
  ![v205.toNat, 0, 2, 0, 0]
def k0_off8 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v231 : Index := Scalar.indexCast v2
  let c0_137 : Index := 0#32
  let c3 : Index := 3#32
  let c0_138 : Index := 0#32
  let c0_139 : Index := 0#32
  ![v231.toNat, 0, 3, 0, 0]
def k0_off9 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v265 : Index := Scalar.indexCast v2
  let c1_161 : Index := 1#32
  let c0_162 : Index := 0#32
  let c0_163 : Index := 0#32
  let c0_164 : Index := 0#32
  ![v265.toNat, 1, 0, 0, 0]
def k0_off10 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : Index := Scalar.indexCast v2
  let c1_177 : Index := 1#32
  let c1_178 : Index := 1#32
  let c0_179 : Index := 0#32
  let c0_180 : Index := 0#32
  ![v291.toNat, 1, 1, 0, 0]
def k0_off11 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v317 : Index := Scalar.indexCast v2
  let c1_193 : Index := 1#32
  let c2_194 : Index := 2#32
  let c0_195 : Index := 0#32
  let c0_196 : Index := 0#32
  ![v317.toNat, 1, 2, 0, 0]
def k0_off12 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v343 : Index := Scalar.indexCast v2
  let c1_209 : Index := 1#32
  let c3_210 : Index := 3#32
  let c0_211 : Index := 0#32
  let c0_212 : Index := 0#32
  ![v343.toNat, 1, 3, 0, 0]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c0_i32_312 : BitVec 32 := 0#32
  let c0_i32_313 : BitVec 32 := 0#32
  ![v4.toNat, 0, 0]
def k0_dev7 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_310 : BitVec 32 := 1#32
  let v426 : BitVec 32 := Scalar.muli v6 c1_i32_310
  let v427 : BitVec 32 := Scalar.addi c0_i32_311 v426
  v427.toNat
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c0_i32_322 : BitVec 32 := 0#32
  let c0_i32_323 : BitVec 32 := 0#32
  ![v4.toNat, 0, 0]
def k0_dev8 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_320 : BitVec 32 := 1#32
  let v436 : BitVec 32 := Scalar.muli v6 c1_i32_320
  let v437 : BitVec 32 := Scalar.addi c0_i32_321 v436
  v437.toNat
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c256_i32 : BitVec 32 := 256#32
  let c0_i32_332 : BitVec 32 := 0#32
  ![v6.toNat, 256, 0]
def k0_dev9 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_330 : BitVec 32 := 1#32
  let v446 : BitVec 32 := Scalar.muli v4 c1_i32_330
  let v447 : BitVec 32 := Scalar.addi c0_i32_331 v446
  v447.toNat
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c128_i32 : BitVec 32 := 128#32
  let c0_i32_341 : BitVec 32 := 0#32
  ![v6.toNat, 128, 0]
def k0_dev10 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_339 : BitVec 32 := 1#32
  let v456 : BitVec 32 := Scalar.muli v4 c1_i32_339
  let v457 : BitVec 32 := Scalar.addi c0_i32_340 v456
  v457.toNat
def k0_off17 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v466 : Index := Scalar.indexCast v4
  let c0_344 : Index := 0#32
  let c0_345 : Index := 0#32
  ![v466.toNat, 0, 0]
def k0_off18 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v469 : Index := Scalar.indexCast v4
  let c0_346 : Index := 0#32
  let c0_347 : Index := 0#32
  ![v469.toNat, 0, 0]
def k0_off19 (d0 : Dev nD) (c3_i32 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v479 : Index := Scalar.indexCast v4
  let c0_353 : Index := 0#32
  let c0_354 : Index := 0#32
  let c0_355 : Index := 0#32
  let c0_356 : Index := 0#32
  ![v479.toNat, 0, 0, 0, 0]
def k0_off20 (d0 : Dev nD) (c3_i32 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v505 : Index := Scalar.indexCast v4
  let c0_369 : Index := 0#32
  let c1_370 : Index := 1#32
  let c0_371 : Index := 0#32
  let c0_372 : Index := 0#32
  ![v505.toNat, 0, 1, 0, 0]
def k0_off21 (d0 : Dev nD) (c3_i32 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v531 : Index := Scalar.indexCast v4
  let c0_385 : Index := 0#32
  let c2_386 : Index := 2#32
  let c0_387 : Index := 0#32
  let c0_388 : Index := 0#32
  ![v531.toNat, 0, 2, 0, 0]
def k0_off22 (d0 : Dev nD) (c3_i32 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v557 : Index := Scalar.indexCast v4
  let c0_401 : Index := 0#32
  let c3_402 : Index := 3#32
  let c0_403 : Index := 0#32
  let c0_404 : Index := 0#32
  ![v557.toNat, 0, 3, 0, 0]
def k0_off23 (d0 : Dev nD) (c3_i32 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v594 : Index := Scalar.indexCast v4
  let c1_430 : Index := 1#32
  let c0_431 : Index := 0#32
  let c0_432 : Index := 0#32
  let c0_433 : Index := 0#32
  ![v594.toNat, 1, 0, 0, 0]
def k0_off24 (d0 : Dev nD) (c3_i32 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v620 : Index := Scalar.indexCast v4
  let c1_446 : Index := 1#32
  let c1_447 : Index := 1#32
  let c0_448 : Index := 0#32
  let c0_449 : Index := 0#32
  ![v620.toNat, 1, 1, 0, 0]
def k0_off25 (d0 : Dev nD) (c3_i32 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v646 : Index := Scalar.indexCast v4
  let c1_462 : Index := 1#32
  let c2_463 : Index := 2#32
  let c0_464 : Index := 0#32
  let c0_465 : Index := 0#32
  ![v646.toNat, 1, 2, 0, 0]
def k0_off26 (d0 : Dev nD) (c3_i32 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v672 : Index := Scalar.indexCast v4
  let c1_478 : Index := 1#32
  let c3_479 : Index := 3#32
  let c0_480 : Index := 0#32
  let c0_481 : Index := 0#32
  ![v672.toNat, 1, 3, 0, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2x4x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x4x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x256x512 : Shape := ⟨3, ![8, 256, 512]⟩
abbrev S512x1024 : Shape := ⟨2, ![512, 1024]⟩
abbrev S8x256x16x64 : Shape := ⟨4, ![8, 256, 16, 64]⟩
abbrev S1024x512 : Shape := ⟨2, ![1024, 512]⟩
abbrev S8x256x1024 : Shape := ⟨3, ![8, 256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S8x16x256x256 : Shape := ⟨4, ![8, 16, 256, 256]⟩
abbrev S1x1x256x256 : Shape := ⟨4, ![1, 1, 256, 256]⟩
abbrev S8x16x256 : Shape := ⟨3, ![8, 16, 256]⟩
abbrev S8x16x256x1 : Shape := ⟨4, ![8, 16, 256, 1]⟩
abbrev S1x1x256x1 : Shape := ⟨4, ![1, 1, 256, 1]⟩
abbrev S8x16x64x256 : Shape := ⟨4, ![8, 16, 64, 256]⟩

abbrev nBuf : Space → Nat
  | .hbm => 123
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S512x1024, .f32⟩
  | .hbm, ⟨2, _⟩ => ⟨S8x256x16x64, .f32⟩
  | .hbm, ⟨3, _⟩ => ⟨S8x256x16x64, .f32⟩
  | .hbm, ⟨4, _⟩ => ⟨S1024x512, .f32⟩
  | .hbm, ⟨5, _⟩ => ⟨S8x256x1024, .f32⟩
  | .hbm, ⟨6, _⟩ => ⟨S8x256x16x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S_, .i32⟩
  | .hbm, ⟨51, _⟩ => ⟨S1x256, .i32⟩
  | .hbm, ⟨52, _⟩ => ⟨S1x256, .i1⟩
  | .hbm, ⟨53, _⟩ => ⟨S256x256, .i1⟩
  | .hbm, ⟨54, _⟩ => ⟨S256x256, .i1⟩
  | .hbm, ⟨55, _⟩ => ⟨S256x256, .i32⟩
  | .hbm, ⟨56, _⟩ => ⟨S256x256, .i32⟩
  | .hbm, ⟨57, _⟩ => ⟨S256x256, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i1⟩
  | .hbm, ⟨69, _⟩ => ⟨S_, .i32⟩
  | .hbm, ⟨70, _⟩ => ⟨S256x256, .i32⟩
  | .hbm, ⟨71, _⟩ => ⟨S256x256, .i1⟩
  | .hbm, ⟨72, _⟩ => ⟨S_, .i32⟩
  | .hbm, ⟨73, _⟩ => ⟨S_, .i1⟩
  | .hbm, ⟨74, _⟩ => ⟨S256x256, .i1⟩
  | .hbm, ⟨75, _⟩ => ⟨S256x256, .i1⟩
  | .hbm, ⟨76, _⟩ => ⟨S256x256, .i1⟩
  | .hbm, ⟨77, _⟩ => ⟨S256x256, .i32⟩
  | .hbm, ⟨78, _⟩ => ⟨S256x256, .i32⟩
  | .hbm, ⟨79, _⟩ => ⟨S256x256, .i32⟩
  | .hbm, ⟨80, _⟩ => ⟨S_, .i32⟩
  | .hbm, ⟨81, _⟩ => ⟨S256x256, .i32⟩
  | .hbm, ⟨82, _⟩ => ⟨S256x256, .i1⟩
  | .hbm, ⟨83, _⟩ => ⟨S256x256, .i1⟩
  | .hbm, ⟨84, _⟩ => ⟨S8x16x256x256, .f32⟩
  | .hbm, ⟨85, _⟩ => ⟨S_, .f32⟩
  | .hbm, ⟨86, _⟩ => ⟨S8x16x256x256, .f32⟩
  | .hbm, ⟨87, _⟩ => ⟨S8x16x256x256, .f32⟩
  | .hbm, ⟨88, _⟩ => ⟨S1x1x256x256, .i1⟩
  | .hbm, ⟨89, _⟩ => ⟨S_, .f32⟩
  | .hbm, ⟨90, _⟩ => ⟨S_, .f32⟩
  | .hbm, ⟨91, _⟩ => ⟨S8x16x256x256, .i1⟩
  | .hbm, ⟨92, _⟩ => ⟨S8x16x256x256, .f32⟩
  | .hbm, ⟨93, _⟩ => ⟨S8x16x256x256, .f32⟩
  | .hbm, ⟨94, _⟩ => ⟨S_, .f32⟩
  | .hbm, ⟨95, _⟩ => ⟨S8x16x256, .f32⟩
  | .hbm, ⟨96, _⟩ => ⟨S8x16x256x1, .f32⟩
  | .hbm, ⟨97, _⟩ => ⟨S8x16x256x256, .f32⟩
  | .hbm, ⟨98, _⟩ => ⟨S8x16x256x256, .f32⟩
  | .hbm, ⟨99, _⟩ => ⟨S8x16x256x256, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S8x16x256, .f32⟩
  | .hbm, ⟨105, _⟩ => ⟨S8x16x256x1, .f32⟩
  | .hbm, ⟨106, _⟩ => ⟨S_, .f32⟩
  | .hbm, ⟨107, _⟩ => ⟨S_, .f32⟩
  | .hbm, ⟨108, _⟩ => ⟨S8x16x256x1, .i1⟩
  | .hbm, ⟨109, _⟩ => ⟨S8x16x256x1, .f32⟩
  | .hbm, ⟨110, _⟩ => ⟨S8x16x256x1, .f32⟩
  | .hbm, ⟨111, _⟩ => ⟨S8x16x256x256, .f32⟩
  | .hbm, ⟨112, _⟩ => ⟨S8x16x256x256, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S8x16x256x256, .i1⟩
  | .hbm, ⟨117, _⟩ => ⟨S8x16x256x256, .f32⟩
  | .hbm, ⟨118, _⟩ => ⟨S8x16x256x256, .f32⟩
  | .hbm, ⟨119, _⟩ => ⟨S8x16x64x256, .f32⟩
  | .hbm, ⟨120, _⟩ => ⟨S8x256x16x64, .f32⟩
  | .hbm, ⟨121, _⟩ => ⟨S8x256x1024, .f32⟩
  | .hbm, ⟨122, _⟩ => ⟨S8x256x512, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Proto.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Tactic
public import Idealize.ShloMosaic.Lib.Pipeline.RegionTalk

/-! The cross-device protocol of the kernel.

Device `c` has a left and a right neighbour on a ring of four.
* Barrier: each neighbour pays one unit and hands over the slots of its two gather buffers that this device will write.
* First hop: the own slot goes to both neighbours.
* Second hop: the upper half of the left neighbour's slot goes on to the right, the lower half of the right neighbour's slot
  goes on to the left.
Every slot `p` of a gather buffer holds the same contents on every device that has it: device `p`'s converted weights. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat Cfg BodyObligation cellOf Seg HostSeg RegionSeg)
open Cert.KernelIdeal Cert.KernelIdeal.Gen

variable {F : FTy → Type} [FloatOps F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The ring -/

def rgt (c : Dev nD) : Dev nD := ⟨(c.val + 1) % 4, Nat.mod_lt _ (by decide)⟩
def lft (c : Dev nD) : Dev nD := ⟨(c.val + 3) % 4, Nat.mod_lt _ (by decide)⟩
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem opp_rgt (c : Dev nD) : opp (rgt c) = lft c := by revert c; decide
theorem opp_lft (c : Dev nD) : opp (lft c) = rgt c := by revert c; decide
def ringR : Dev nD ≃ Dev nD := ⟨rgt, lft, lft_rgt, rgt_lft⟩
def ringL : Dev nD ≃ Dev nD := ⟨lft, rgt, rgt_lft, lft_rgt⟩

/-! ## Buffers and cells -/

abbrev A0 := win0_0.stage 0
abbrev A1 := win0_1.stage 0
abbrev A2 := win0_2.stage 0
abbrev A3 := win0_3.stage 0
abbrev A4 := win0_4.stage 0
abbrev A5 := win0_5.stage 0
abbrev A6 : Memref sig .tc .vmem S4x512x256 .bf16 := Memref.whole cc0_scratch0
abbrev A7 : Memref sig .tc .vmem S4x256x512 .bf16 := Memref.whole cc0_scratch1
abbrev A8 : Memref sig .tc .vmem S2x256x512 .bf16 := Memref.whole cc0_scratch2
abbrev A9 : Memref sig .tc .vmem S256x256 .bf16 := Memref.whole cc0_scratch3

abbrev barS : Sem sig := sig.barrier 0 rfl
/-- The sixteen transfer semaphores: send and receive of the first weight, send and receive of the second, each by hop and
direction. -/
def dk (k : Fin 16) : DmaSem sig := ⟨6 + k.val, by have := k.isLt; show 6 + k.val < 22; omega⟩
abbrev barCell (c : Dev nD) : GSem nD τ sig := ((c : Thread nD τ), .reg barS)
abbrev dcell (c : Dev nD) (k : Fin 16) : GSem nD τ sig := ((c : Thread nD τ), .dma (dk k))

theorem dk_inj : Function.Injective dk := by
  intro a b h
  have h' := congrArg Fin.val h
  exact Fin.ext (by simpa [dk] using h')

/-- Who pays transfer cell `k` of which device: device `c` pays cell `k` of `who k c`. -/
def who (k : Fin 16) : Dev nD ≃ Dev nD :=
  if k.val / 4 % 2 = 0 then Equiv.refl _ else if k.val % 2 = 0 then ringR else ringL

/-! ## Parts of the gather buffers -/

theorem inbQ (p : Dev nD) : ∀ a, (![p.val, 0, 0] : Fin 3 → ℕ) a + S1x512x256.size a ≤ S4x512x256.size a := by
  revert p; decide
theorem inbQT (p : Dev nD) : ∀ a, (![p.val, 0, 0] : Fin 3 → ℕ) a + S1x256x256.size a ≤ S4x512x256.size a := by
  revert p; decide
theorem inbQB (p : Dev nD) : ∀ a, (![p.val, 256, 0] : Fin 3 → ℕ) a + S1x256x256.size a ≤ S4x512x256.size a := by
  revert p; decide
theorem inbO (p : Dev nD) : ∀ a, (![p.val, 0, 0] : Fin 3 → ℕ) a + S1x256x512.size a ≤ S4x256x512.size a := by
  revert p; decide
theorem inbOT (p : Dev nD) : ∀ a, (![p.val, 0, 0] : Fin 3 → ℕ) a + S1x128x512.size a ≤ S4x256x512.size a := by
  revert p; decide
theorem inbOB (p : Dev nD) : ∀ a, (![p.val, 128, 0] : Fin 3 → ℕ) a + S1x128x512.size a ≤ S4x256x512.size a := by
  revert p; decide

/-- Slot `p` of the first gather buffer, its upper and its lower half. -/
def qSlot (p : Dev nD) : Finset S4x512x256.Idx := (Rect.unit (s := S4x512x256) ![p.val, 0, 0] S1x512x256.size (inbQ p)).set
def qTop (p : Dev nD) : Finset S4x512x256.Idx := (Rect.unit (s := S4x512x256) ![p.val, 0, 0] S1x256x256.size (inbQT p)).set
def qBot (p : Dev nD) : Finset S4x512x256.Idx := (Rect.unit (s := S4x512x256) ![p.val, 256, 0] S1x256x256.size (inbQB p)).set
/-- Slot `p` of the second gather buffer, its upper and its lower half. -/
def oSlot (p : Dev nD) : Finset S4x256x512.Idx := (Rect.unit (s := S4x256x512) ![p.val, 0, 0] S1x256x512.size (inbO p)).set
def oTop (p : Dev nD) : Finset S4x256x512.Idx := (Rect.unit (s := S4x256x512) ![p.val, 0, 0] S1x128x512.size (inbOT p)).set
def oBot (p : Dev nD) : Finset S4x256x512.Idx := (Rect.unit (s := S4x256x512) ![p.val, 128, 0] S1x128x512.size (inbOB p)).set

theorem mem_qSlot (p : Dev nD) (i : S4x512x256.Idx) : i ∈ qSlot p ↔ (i 0).val = p.val := by
  unfold qSlot
  rw [Rect.mem_set_unit, Fin.forall_fin_succ, Fin.forall_fin_two]
  have h1 : (i 1).val < 512 := (i 1).isLt
  have h2 : (i 2).val < 256 := (i 2).isLt
  show ((p.val ≤ (i 0).val ∧ (i 0).val < p.val + 1) ∧ (0 ≤ (i 1).val ∧ (i 1).val < 0 + 512) ∧ 0 ≤ (i 2).val ∧ (i 2).val < 0 + 256) ↔ _
  omega
theorem mem_qTop (p : Dev nD) (i : S4x512x256.Idx) : i ∈ qTop p ↔ (i 0).val = p.val ∧ (i 1).val < 256 := by
  unfold qTop
  rw [Rect.mem_set_unit, Fin.forall_fin_succ, Fin.forall_fin_two]
  have h1 : (i 1).val < 512 := (i 1).isLt
  have h2 : (i 2).val < 256 := (i 2).isLt
  show ((p.val ≤ (i 0).val ∧ (i 0).val < p.val + 1) ∧ (0 ≤ (i 1).val ∧ (i 1).val < 0 + 256) ∧ 0 ≤ (i 2).val ∧ (i 2).val < 0 + 256) ↔ _
  omega
theorem mem_qBot (p : Dev nD) (i : S4x512x256.Idx) : i ∈ qBot p ↔ (i 0).val = p.val ∧ 256 ≤ (i 1).val := by
  unfold qBot
  rw [Rect.mem_set_unit, Fin.forall_fin_succ, Fin.forall_fin_two]
  have h1 : (i 1).val < 512 := (i 1).isLt
  have h2 : (i 2).val < 256 := (i 2).isLt
  show ((p.val ≤ (i 0).val ∧ (i 0).val < p.val + 1) ∧ (256 ≤ (i 1).val ∧ (i 1).val < 256 + 256) ∧ 0 ≤ (i 2).val ∧ (i 2).val < 0 + 256) ↔ _
  omega
theorem mem_oSlot (p : Dev nD) (i : S4x256x512.Idx) : i ∈ oSlot p ↔ (i 0).val = p.val := by
  unfold oSlot
  rw [Rect.mem_set_unit, Fin.forall_fin_succ, Fin.forall_fin_two]
  have h1 : (i 1).val < 256 := (i 1).isLt
  have h2 : (i 2).val < 512 := (i 2).isLt
  show ((p.val ≤ (i 0).val ∧ (i 0).val < p.val + 1) ∧ (0 ≤ (i 1).val ∧ (i 1).val < 0 + 256) ∧ 0 ≤ (i 2).val ∧ (i 2).val < 0 + 512) ↔ _
  omega
theorem mem_oTop (p : Dev nD) (i : S4x256x512.Idx) : i ∈ oTop p ↔ (i 0).val = p.val ∧ (i 1).val < 128 := by
  unfold oTop
  rw [Rect.mem_set_unit, Fin.forall_fin_succ, Fin.forall_fin_two]
  have h1 : (i 1).val < 256 := (i 1).isLt
  have h2 : (i 2).val < 512 := (i 2).isLt
  show ((p.val ≤ (i 0).val ∧ (i 0).val < p.val + 1) ∧ (0 ≤ (i 1).val ∧ (i 1).val < 0 + 128) ∧ 0 ≤ (i 2).val ∧ (i 2).val < 0 + 512) ↔ _
  omega
theorem mem_oBot (p : Dev nD) (i : S4x256x512.Idx) : i ∈ oBot p ↔ (i 0).val = p.val ∧ 128 ≤ (i 1).val := by
  unfold oBot
  rw [Rect.mem_set_unit, Fin.forall_fin_succ, Fin.forall_fin_two]
  have h1 : (i 1).val < 256 := (i 1).isLt
  have h2 : (i 2).val < 512 := (i 2).isLt
  show ((p.val ≤ (i 0).val ∧ (i 0).val < p.val + 1) ∧ (128 ≤ (i 1).val ∧ (i 1).val < 128 + 128) ∧ 0 ≤ (i 2).val ∧ (i 2).val < 0 + 512) ↔ _
  omega

theorem qHalves (p : Dev nD) : qTop p ∪ qBot p = qSlot p := by
  ext i; rw [Finset.mem_union, mem_qTop, mem_qBot, mem_qSlot]; omega
theorem qHalves_disjoint (p : Dev nD) : Disjoint (qTop p) (qBot p) :=
  Finset.disjoint_left.mpr fun i h h' => by rw [mem_qTop] at h; rw [mem_qBot] at h'; omega
theorem oHalves (p : Dev nD) : oTop p ∪ oBot p = oSlot p := by
  ext i; rw [Finset.mem_union, mem_oTop, mem_oBot, mem_oSlot]; omega
theorem oHalves_disjoint (p : Dev nD) : Disjoint (oTop p) (oBot p) :=
  Finset.disjoint_left.mpr fun i h h' => by rw [mem_oTop] at h; rw [mem_oBot] at h'; omega

theorem ring_cases (c : Dev nD) (n : ℕ) (hn : n < 4) : n = c.val ∨ n = (lft c).val ∨ n = (rgt c).val ∨ n = (opp c).val := by
  have h4 : c.val < 4 := c.isLt
  simp only [lft, rgt, opp]
  omega
theorem ring_ne (c : Dev nD) : c.val ≠ (lft c).val ∧ c.val ≠ (rgt c).val ∧ c.val ≠ (opp c).val ∧ (lft c).val ≠ (rgt c).val
    ∧ (lft c).val ≠ (opp c).val ∧ (rgt c).val ≠ (opp c).val := by
  revert c; decide

theorem qAll (c : Dev nD) : (Finset.univ : Finset S4x512x256.Idx) = qSlot c ∪ (qSlot (lft c) ∪ (qSlot (rgt c) ∪ qSlot (opp c))) := by
  ext i
  simp only [Finset.mem_univ, Finset.mem_union, mem_qSlot, true_iff]
  exact ring_cases c _ (i 0).isLt
theorem oAll (c : Dev nD) : (Finset.univ : Finset S4x256x512.Idx) = oSlot c ∪ (oSlot (lft c) ∪ (oSlot (rgt c) ∪ oSlot (opp c))) := by
  ext i
  simp only [Finset.mem_univ, Finset.mem_union, mem_oSlot, true_iff]
  exact ring_cases c _ (i 0).isLt

section Parts

variable (c : Dev nD) (q : PosShare TreeShare)

/-- Part `S` of device `c`'s first gather buffer, at contents `G`. -/
abbrev qs (S : Finset S4x512x256.Idx) (G : cc0_scratch0.ty.Contents (Elt F)) : sProp 𝕄 :=
  A6.view.loc (c : Thread nD τ) ↦[S]{q} G
/-- Part `S` of device `c`'s second gather buffer, at contents `G`. -/
abbrev os (S : Finset S4x256x512.Idx) (G : cc0_scratch1.ty.Contents (Elt F)) : sProp 𝕄 :=
  A7.view.loc (c : Thread nD τ) ↦[S]{q} G

theorem qs_half (p : Dev nD) (G : cc0_scratch0.ty.Contents (Elt F)) :
    (qs c q (qSlot p) G : sProp 𝕄) ⊣⊢ iprop(qs c q (qTop p) G ∗ qs c q (qBot p) G) := by
  rw [← qHalves]; exact pointsTo_union (qHalves_disjoint p)
theorem os_half (p : Dev nD) (G : cc0_scratch1.ty.Contents (Elt F)) :
    (os c q (oSlot p) G : sProp 𝕄) ⊣⊢ iprop(os c q (oTop p) G ∗ os c q (oBot p) G) := by
  rw [← oHalves]; exact pointsTo_union (oHalves_disjoint p)

theorem qs_all (G : cc0_scratch0.ty.Contents (Elt F)) :
    (qs c q Finset.univ G : sProp 𝕄) ⊣⊢ iprop(qs c q (qSlot c) G ∗ qs c q (qSlot (lft c)) G ∗ qs c q (qSlot (rgt c)) G ∗ qs c q (qSlot (opp c)) G) := by
  obtain ⟨h1, h2, h3, h4, h5, h6⟩ := ring_ne c
  rw [qAll c]
  refine (pointsTo_union ?_).trans (sep_congr_right ((pointsTo_union ?_).trans (sep_congr_right (pointsTo_union ?_))))
  all_goals
    rw [Finset.disjoint_left]
    intro i hi hj
    simp only [Finset.mem_union, mem_qSlot] at hi hj
    omega
theorem os_all (G : cc0_scratch1.ty.Contents (Elt F)) :
    (os c q Finset.univ G : sProp 𝕄) ⊣⊢ iprop(os c q (oSlot c) G ∗ os c q (oSlot (lft c)) G ∗ os c q (oSlot (rgt c)) G ∗ os c q (oSlot (opp c)) G) := by
  obtain ⟨h1, h2, h3, h4, h5, h6⟩ := ring_ne c
  rw [oAll c]
  refine (pointsTo_union ?_).trans (sep_congr_right ((pointsTo_union ?_).trans (sep_congr_right (pointsTo_union ?_))))
  all_goals
    rw [Finset.disjoint_left]
    intro i hi hj
    simp only [Finset.mem_union, mem_oSlot] at hi hj
    omega

end Parts

/-! ## The schedule -/

/-- What one transfer of the first weight credits: a whole slot, half a slot; then the second weight's. -/
abbrev N0 : ℕ := ((A6.slice (Rect.unit (s := S4x512x256) ![0, 0, 0] S1x512x256.size (inbQ 0)) (fun _ => rfl)).squeeze S512x256 squeezes_S1x512x256_S512x256).view.dmaCredit
abbrev N1 : ℕ := ((A6.slice (Rect.unit (s := S4x512x256) ![0, 0, 0] S1x256x256.size (inbQT 0)) (fun _ => rfl)).squeeze S256x256 squeezes_S1x256x256_S256x256).view.dmaCredit
abbrev M0 : ℕ := ((A7.slice (Rect.unit (s := S4x256x512) ![0, 0, 0] S1x256x512.size (inbO 0)) (fun _ => rfl)).squeeze S256x512 squeezes_S1x256x512_S256x512).view.dmaCredit
abbrev M1 : ℕ := ((A7.slice (Rect.unit (s := S4x256x512) ![0, 0, 0] S1x128x512.size (inbOT 0)) (fun _ => rfl)).squeeze S128x512 squeezes_S1x128x512_S128x512).view.dmaCredit

/-- What transfer cell `k` is paid. -/
def NN (k : Fin 16) : ℕ :=
  if k.val < 8 then (if k.val % 4 < 2 then N0 else N1) else (if k.val % 4 < 2 then M0 else M1)
theorem NN_pos (k : Fin 16) : 0 < NN k := by
  unfold NN
  repeat' split
  all_goals exact View.dmaCredit_pos _ (by decide)

section Sched

variable (Gq : cc0_scratch0.ty.Contents (Elt F)) (Go : cc0_scratch1.ty.Contents (Elt F))

/-- What transfer cell `k` of device `d` hands over once its transfer is done. -/
def payN (d : Dev nD) : ℕ → sProp 𝕄
  | 0 => qs d fullShare.left (qSlot d) Gq
  | 1 => qs d fullShare.right.left (qSlot d) Gq
  | 2 => qs d fullShare.left (qTop (lft d)) Gq
  | 3 => qs d fullShare.left (qBot (rgt d)) Gq
  | 4 => qs d fullShare (qSlot (lft d)) Gq
  | 5 => qs d fullShare (qSlot (rgt d)) Gq
  | 6 => qs d fullShare (qTop (opp d)) Gq
  | 7 => qs d fullShare (qBot (opp d)) Gq
  | 8 => os d fullShare.left (oSlot d) Go
  | 9 => os d fullShare.right.left (oSlot d) Go
  | 10 => os d fullShare.left (oTop (lft d)) Go
  | 11 => os d fullShare.left (oBot (rgt d)) Go
  | 12 => os d fullShare (oSlot (lft d)) Go
  | 13 => os d fullShare (oSlot (rgt d)) Go
  | 14 => os d fullShare (oTop (opp d)) Go
  | 15 => os d fullShare (oBot (opp d)) Go
  | _ => iprop(emp)
def pay (d : Dev nD) (k : Fin 16) : sProp 𝕄 := payN Gq Go d k.val

instance pay_storable (d : Dev nD) (k : Fin 16) : BI.Storable (upEmb : UEmb _ 𝕄) (pay Gq Go d k) := by
  unfold pay payN; split <;> infer_instance

/-- Paid to device `c`'s barrier: by its right neighbour (duty 0) what `c` will write there from the left, by its left
neighbour (duty 1) what `c` will write there from the right; with the word that the cells the transfers raise are open. -/
def barPay (c : Dev nD) (d : Fin 2) : sProp 𝕄 :=
  if d = 0 then
    iprop((∃ f, qs (rgt c) fullShare (qSlot c) f) ∗ (∃ f, qs (rgt c) fullShare (qTop (lft c)) f)
      ∗ (∃ f, os (rgt c) fullShare (oSlot c) f) ∗ (∃ f, os (rgt c) fullShare (oTop (lft c)) f)
      ∗ reached ER (dcell (rgt c) 4) 0 ∗ reached ER (dcell (rgt c) 6) 0 ∗ reached ER (dcell (rgt c) 12) 0 ∗ reached ER (dcell (rgt c) 14) 0)
  else
    iprop((∃ f, qs (lft c) fullShare (qSlot c) f) ∗ (∃ f, qs (lft c) fullShare (qBot (rgt c)) f)
      ∗ (∃ f, os (lft c) fullShare (oSlot c) f) ∗ (∃ f, os (lft c) fullShare (oBot (rgt c)) f)
      ∗ reached ER (dcell (lft c) 5) 0 ∗ reached ER (dcell (lft c) 7) 0 ∗ reached ER (dcell (lft c) 13) 0 ∗ reached ER (dcell (lft c) 15) 0)

instance barPay_storable (c : Dev nD) (d : Fin 2) : BI.Storable (upEmb : UEmb _ 𝕄) (barPay (F := F) c d) := by
  unfold barPay; split <;> infer_instance

/-- The schedule by the kind of cell. -/
def dutiesOf : SemLoc sig → Finset (Fin 2)
  | .reg _ => Finset.univ
  | .dma s => if 6 ≤ s.val then {0} else ∅
def amtOf : SemLoc sig → ℕ
  | .reg _ => 1
  | .dma s => if h : 6 ≤ s.val then NN ⟨s.val - 6, by have : s.val < 22 := s.isLt; omega⟩ else 1
theorem amtOf_pos (sm : SemLoc sig) : 0 < amtOf sm := by
  cases sm with
  | reg s => exact Nat.one_pos
  | dma s =>
    show 0 < if h : 6 ≤ s.val then NN ⟨s.val - 6, by have : s.val < 22 := s.isLt; omega⟩ else 1
    by_cases h : 6 ≤ s.val
    · rw [dif_pos h]; exact NN_pos _
    · rw [dif_neg h]; exact Nat.one_pos
def payOf (c : Dev nD) (d : Fin 2) : SemLoc sig → sProp 𝕄
  | .reg _ => barPay c d
  | .dma s => if h : 6 ≤ s.val then pay Gq Go c ⟨s.val - 6, by have : s.val < 22 := s.isLt; omega⟩ else iprop(emp)

instance payOf_storable (c : Dev nD) (d : Fin 2) (sm : SemLoc sig) : BI.Storable (upEmb : UEmb _ 𝕄) (payOf Gq Go c d sm) := by
  cases sm <;> unfold payOf <;> (repeat' split) <;> infer_instance

/-- One round on every cell: the barrier has two payers, a transfer cell one. -/
def Rd : Rounds.Schedule (GSem nD τ sig) (Fin 2) 𝕄 where
  duties g r := if r = 0 ∧ g.1.2 = .tc then dutiesOf g.2 else ∅
  unitless _ := False
  amount g _ _ := amtOf g.2
  payload g _ d := payOf Gq Go g.1.1 d g.2
  amount_pos g _ _ _ := amtOf_pos g.2

instance Rd_storable (g : GSem nD τ sig) (r : ℕ) (d : Fin 2) : BI.Storable (upEmb : UEmb _ 𝕄) ((Rd Gq Go).payload g r d) := by
  show BI.Storable _ (payOf Gq Go g.1.1 d g.2)
  infer_instance

theorem duties_later (g : GSem nD τ sig) : ∀ r, 1 ≤ r → (Rd Gq Go).duties g r = ∅ :=
  fun r hr => by dsimp only [Rd]; rw [if_neg (fun h => by omega)]
theorem duties_bar (c : Dev nD) : (Rd Gq Go).duties (barCell c) 0 = Finset.univ := by
  dsimp only [Rd]; exact if_pos ⟨rfl, rfl⟩
theorem duties_dma (c : Dev nD) (k : Fin 16) : (Rd Gq Go).duties (dcell c k) 0 = {0} := by
  dsimp only [Rd]
  rw [if_pos ⟨rfl, rfl⟩]
  exact if_pos (Nat.le_add_right 6 k.val)
theorem amount_bar (c : Dev nD) (d : Fin 2) : (Rd Gq Go).amount (barCell c) 0 d = 1 := rfl
theorem amount_dma (c : Dev nD) (k : Fin 16) (d : Fin 2) : (Rd Gq Go).amount (dcell c k) 0 d = NN k := by
  show (if h : 6 ≤ 6 + k.val then NN ⟨6 + k.val - 6, _⟩ else 1) = NN k
  rw [dif_pos (Nat.le_add_right 6 k.val)]
  congr 1
  exact Fin.ext (Nat.add_sub_cancel_left 6 k.val)
theorem payload_bar (c : Dev nD) (d : Fin 2) : (Rd Gq Go).payload (barCell c) 0 d = barPay c d := rfl
theorem payload_dma (c : Dev nD) (k : Fin 16) (d : Fin 2) : (Rd Gq Go).payload (dcell c k) 0 d = pay Gq Go c k := by
  show (if h : 6 ≤ 6 + k.val then pay Gq Go c ⟨6 + k.val - 6, _⟩ else iprop(emp)) = pay Gq Go c k
  rw [dif_pos (Nat.le_add_right 6 k.val)]
  congr 1
  exact Fin.ext (Nat.add_sub_cancel_left 6 k.val)
theorem expect_bar (c : Dev nD) : (Rd Gq Go).expect (barCell c) 0 = 2 := by
  unfold Schedule.expect Schedule.amountOf
  rw [duties_bar]
  simp only [amount_bar]
  rfl
theorem expect_dma (c : Dev nD) (k : Fin 16) : (Rd Gq Go).expect (dcell c k) 0 = NN k := by
  unfold Schedule.expect Schedule.amountOf
  rw [duties_dma, Finset.sum_singleton, amount_dma]
theorem rest_bar (c : Dev nD) :
    bigSep ((Rd Gq Go).duties (barCell c) 0 \ ∅) (fun d => (Rd Gq Go).payload (barCell c) 0 d) = iprop(barPay c 0 ∗ barPay (F := F) c 1) := by
  rw [Finset.sdiff_empty, duties_bar]
  exact BI.bigSep_fin_two _
theorem rest_dma (c : Dev nD) (k : Fin 16) :
    bigSep ((Rd Gq Go).duties (dcell c k) 0 \ ∅) (fun d => (Rd Gq Go).payload (dcell c k) 0 d) = pay Gq Go c k := by
  rw [Finset.sdiff_empty, duties_dma, bigSep_singleton, payload_dma]

end Sched

/-! ## What a device owes, in the order it pays; the levels -/

/-- What the listed payments come to. -/
def Osum : List (GSem nD τ sig × ℕ) → CellTallies nD τ sig Unit
  | [] => 0
  | p :: l => Osum l + tallyAt p.1 () p.2

theorem Osum_pos : ∀ (l : List (GSem nD τ sig × ℕ)) (g : GSem nD τ sig) (u : Unit), 0 < Osum l g u → ∃ p ∈ l, p.1 = g
  | [], g, u, h => absurd h (Nat.lt_irrefl 0)
  | p :: l, g, u, h => by
    have h' : 0 < Osum l g u + tallyAt p.1 () p.2 g u := h
    by_cases hp : p.1 = g
    · exact ⟨p, List.mem_cons_self, hp⟩
    · rw [tallyAt_apply, if_neg (fun e => hp e.1.symm), Nat.add_zero] at h'
      obtain ⟨q, hq, e⟩ := Osum_pos l g u h'
      exact ⟨q, List.mem_cons_of_mem _ hq, e⟩

/-- The second hop's payments, and all of them. -/
abbrev owed2 (c : Dev nD) : List (GSem nD τ sig × ℕ) :=
  [(dcell (rgt c) 6, NN 6), (dcell (rgt c) 14, NN 14), (dcell (lft c) 7, NN 7), (dcell (lft c) 15, NN 15)]
abbrev owed1 (c : Dev nD) : List (GSem nD τ sig × ℕ) :=
  (dcell (rgt c) 4, NN 4) :: (dcell (rgt c) 12, NN 12) :: (dcell (lft c) 5, NN 5) :: (dcell (lft c) 13, NN 13) :: owed2 c
abbrev owedL (c : Dev nD) : List (GSem nD τ sig × ℕ) := (barCell (lft c), 1) :: (barCell (rgt c), 1) :: owed1 c
abbrev O₀ (c : Dev nD) : CellTallies nD τ sig Unit := Osum (owedL c)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barriers at 1, the first hop's receives at 2, the second's at 3, the rest at 0. -/
def lvS : SemLoc sig → ℕ
  | .reg _ => 1
  | .dma s => if s.val = 10 ∨ s.val = 11 ∨ s.val = 18 ∨ s.val = 19 then 2
      else if s.val = 12 ∨ s.val = 13 ∨ s.val = 20 ∨ s.val = 21 then 3 else 0
def lv (g : GSem nD τ sig) (_ : Unit) : ℕ := lvS g.2

/-- A device may wait on a cell below every cell it still owes. -/
theorem mayWait (c : Dev nD) (sm : SemLoc sig) (l : List (GSem nD τ sig × ℕ)) (h : ∀ p ∈ l, p.1.1.2 = .tc ∧ lvS sm < lvS p.1.2) :
    (levAts L lv : sProp 𝕄) ⊢ MayWait (c : Thread nD τ) sm () (Osum l) :=
  MayOwe.of_cut (L := L) (lev := lv) (lvS sm) (fun p hp => by rw [Finset.mem_singleton.mp hp, L_tc]; exact Finset.mem_singleton_self _)
    (fun g u hg => by
      obtain ⟨p, hp, rfl⟩ := Osum_pos l g u hg
      unfold L
      rw [if_pos (h p hp).1]
      exact Finset.mem_singleton_self _)
    (fun p hp => by rw [Finset.mem_singleton.mp hp]; exact Nat.le_refl _)
    (fun g u hg => by
      obtain ⟨p, hp, rfl⟩ := Osum_pos l g u hg
      exact (h p hp).2)

/-! ## The protocol's ghost state -/

section Ghost

variable (Gq : cc0_scratch0.ty.Contents (Elt F)) (Go : cc0_scratch1.ty.Contents (Elt F))

/-- One member of a family. -/
theorem bigSep_at {I : Type} [Fintype I] [DecidableEq I] (Φ : I → sProp 𝕄) (i : I) : (bigSep Finset.univ Φ : sProp 𝕄) ⊢ Φ i :=
  BI.bigSep_elim (Finset.mem_univ i)

/-- The invariants of all cells of all devices, at the names `K`. -/
def invs (K : GSem nD τ sig → ℕ) : sProp 𝕄 :=
  iprop(bigSep Finset.univ (fun c : Dev nD => cellInv ER (Rd Gq Go) (K (barCell c)) (barCell c))
    ∗ bigSep Finset.univ (fun p : Dev nD × Fin 16 => cellInv ER (Rd Gq Go) (K (dcell p.1 p.2)) (dcell p.1 p.2)))

instance invs_persistent (K : GSem nD τ sig → ℕ) : BI.Persistent (invs Gq Go K) := by unfold invs; infer_instance

theorem invs_bar (K : GSem nD τ sig → ℕ) (c : Dev nD) : (invs Gq Go K : sProp 𝕄) ⊢ cellInv ER (Rd Gq Go) (K (barCell c)) (barCell c) := by
  unfold invs
  iintro ⟨H, -⟩
  ihave H' := (bigSep_at (fun c : Dev nD => cellInv ER (Rd Gq Go) (K (barCell c)) (barCell c)) c) $$ H
  iexact H'
theorem invs_dma (K : GSem nD τ sig → ℕ) (c : Dev nD) (k : Fin 16) :
    (invs Gq Go K : sProp 𝕄) ⊢ cellInv ER (Rd Gq Go) (K (dcell c k)) (dcell c k) := by
  unfold invs
  iintro ⟨-, H⟩
  ihave H' := (bigSep_at (fun p : Dev nD × Fin 16 => cellInv ER (Rd Gq Go) (K (dcell p.1 p.2)) (dcell p.1 p.2)) (c, k)) $$ H
  iexact H'

/-- What a device still has to pay, having waited on something. -/
def owing (c : Dev nD) (l : List (GSem nD τ sig × ℕ)) : sProp 𝕄 := iprop(∃ W, owes (c : Thread nD τ) (Osum l) W)

end Ghost

end Cert.KernelIdeal.Own
-- ==== Proof.Steps.lean ====
module

public import proofs.«01_k».proof.Proof.Proto

/-! The rule of each kind of cross-device step, at this protocol's schedule. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat Cfg BodyObligation cellOf Seg HostSeg RegionSeg)
open Cert.KernelIdeal Cert.KernelIdeal.Gen

variable {F : FTy → Type} [FloatOps F]

local notation "𝕄" => MT nD τ sig Unit (Elt F) ℕ UU ℕ

section Steps

variable (Gq : cc0_scratch0.ty.Contents (Elt F)) (Go : cc0_scratch1.ty.Contents (Elt F))
variable (K : GSem nD τ sig → ℕ) (c : Dev nD)

/-- A signal of a neighbour's barrier: one unit, with what duty `d` hands over. -/
theorem step_signal (c' c₁ : Dev nD) (hc : c₁ = c') (d : Fin 2) (l : List (GSem nD τ sig × ℕ))
    {α : Type} {k : PUnit → Prog (TpuEff nD τ sig (Elt F) Λ₀ .tc) α} {Q : α → sProp 𝕄} (hr : τ.routes (c : Thread nD τ) (c₁ : Thread nD τ) = true := by routes) :
    iprop(invs Gq Go K ∗ reached ER (barCell c') 0 ∗ dutyTok ER (barCell c') 0 d ∗ barPay (F := F) c' d ∗ owing c ((barCell c', 1) :: l))
      ⊢ iprop((owing c l -∗ wp frame (wpE defs₀ 𝒱₀ (c : Thread nD τ) none) Set.univ (k ⟨⟩) Q)
          -∗ wp frame (wpE defs₀ 𝒱₀ (c : Thread nD τ) none) Set.univ (.op (.semSignal (c₁ : Thread nD τ) barS 1) k) Q) := by
  subst hc
  unfold owing
  iintro ⟨#HI, #Hr, Ht, Hp, ⟨%W, HO⟩⟩ Hk
  ihave #HI' := (invs_bar Gq Go K c₁) $$ HI
  iapply (Rounds.wp_signal 𝒱₀ ER (Rd Gq Go) (c : Thread nD τ) none (dst := (c₁ : Thread nD τ)) (sem := barS) (r := 0) (d := d)
      (κ := K (barCell c₁)) (by rw [duties_bar]; exact Finset.mem_univ _) (amount_bar Gq Go c₁ d) () (Osum l) rfl hr)
    $$ [HO Ht Hp]
  · isplitr; · iexact HI'
    isplitl [HO]; · iexact HO
    isplitl [Ht]; · iexact Ht
    isplitl [Hp]; · rw [payload_bar]; iexact Hp
    iexact Hr
  iintro HO
  iapply Hk
  iexists W; iexact HO

/-- The wait on the own barrier: both neighbours' units, with what they hand over. -/
theorem step_wait_bar (l : List (GSem nD τ sig × ℕ)) (hl : ∀ p ∈ l, p.1.1.2 = .tc ∧ lvS (.reg barS) < lvS p.1.2)
    {α : Type} {k : PUnit → Prog (TpuEff nD τ sig (Elt F) Λ₀ .tc) α} {Q : α → sProp 𝕄} :
    iprop(invs Gq Go K ∗ levAts L lv ∗ cred (tallyAt (barCell c) () 2) ∗ owing c l ∗ atPos ER (barCell c) 0 ∅ 0)
      ⊢ iprop(((owing c l ∗ atPos ER (barCell c) (0 + 1) ∅ 0 ∗ barPay (F := F) c 0 ∗ barPay (F := F) c 1)
            -∗ wp frame (wpE defs₀ 𝒱₀ (c : Thread nD τ) none) Set.univ (k ⟨⟩) Q)
          -∗ wp frame (wpE defs₀ 𝒱₀ (c : Thread nD τ) none) Set.univ (.op (.semWait barS 2) k) Q) := by
  unfold owing
  iintro ⟨#HI, #Hlev, Hc, ⟨%W, HO⟩, Hat⟩ Hk
  ihave #HI' := (invs_bar Gq Go K c) $$ HI
  iapply (Rounds.wp_wait_rest_token 𝒱₀ ER (Rd Gq Go) (c : Thread nD τ) none (κ := K (barCell c))
      (wpE_semWait_eq 𝒱₀ (c : Thread nD τ) none Set.univ) (Set.mem_univ _) () (O := Osum l) (W := W) (R := 0) (m := 0) (T := ∅)
      ((Nat.zero_add 2).trans (expect_bar Gq Go c).symm)) $$ [Hc HO Hat]
  · isplitr; · iexact HI'
    isplitl [Hc]; · iexact Hc
    isplitl [HO]; · iexact HO
    isplitr; · iapply (mayWait c (.reg barS) l hl); iexact Hlev
    iexact Hat
  iintro ⟨HO, Hat, -, Hpay⟩
  ihave Hp := (Entails.of_eq (rest_bar Gq Go c)) $$ Hpay
  icases Hp with ⟨H0, H1⟩
  iapply Hk
  isplitl [HO]; · iexists _; iexact HO
  isplitl [Hat]; · iexact Hat
  isplitl [H0]; · iexact H0
  iexact H1

/-- The wait on an own transfer cell: its payload. -/
theorem step_wait (k : Fin 16) (l : List (GSem nD τ sig × ℕ)) (hl : ∀ p ∈ l, p.1.1.2 = .tc ∧ lvS (.dma (dk k)) < lvS p.1.2)
    {w : TpuEff nD τ sig (Elt F) Λ₀ .tc PUnit}
    (hw : ∀ Kp : PUnit → sProp 𝕄, wpE defs₀ 𝒱₀ (c : Thread nD τ) none Set.univ w Kp = waitSpec (c : Thread nD τ) Set.univ (.dma (dk k)) (NN k) Kp)
    {α : Type} {kk : PUnit → Prog (TpuEff nD τ sig (Elt F) Λ₀ .tc) α} {Q : α → sProp 𝕄} :
    iprop(invs Gq Go K ∗ levAts L lv ∗ cred (tallyAt (dcell c k) () (NN k)) ∗ owing c l ∗ atPos ER (dcell c k) 0 ∅ 0)
      ⊢ iprop(((owing c l ∗ atPos ER (dcell c k) (0 + 1) ∅ 0 ∗ pay Gq Go c k)
            -∗ wp frame (wpE defs₀ 𝒱₀ (c : Thread nD τ) none) Set.univ (kk ⟨⟩) Q)
          -∗ wp frame (wpE defs₀ 𝒱₀ (c : Thread nD τ) none) Set.univ (.op w kk) Q) := by
  unfold owing
  iintro ⟨#HI, #Hlev, Hc, ⟨%W, HO⟩, Hat⟩ Hk
  ihave #HI' := (invs_dma Gq Go K c k) $$ HI
  iapply (Rounds.wp_wait_rest_token 𝒱₀ ER (Rd Gq Go) (c : Thread nD τ) none (κ := K (dcell c k)) (k' := NN k)
      hw (Set.mem_univ _) () (O := Osum l) (W := W) (R := 0) (m := 0) (T := ∅)
      ((Nat.zero_add _).trans (expect_dma Gq Go c k).symm)) $$ [Hc HO Hat]
  · isplitr; · iexact HI'
    isplitl [Hc]; · iexact Hc
    isplitl [HO]; · iexact HO
    isplitr; · iapply (mayWait c (.dma (dk k)) l hl); iexact Hlev
    iexact Hat
  iintro ⟨HO, Hat, -, Hpay⟩
  ihave Hp := (Entails.of_eq (rest_dma Gq Go c k)) $$ Hpay
  iapply Hk
  isplitl [HO]; · iexists _; iexact HO
  isplitl [Hat]; · iexact Hat
  iexact Hp

/-- The same, of a wait that names a view. -/
theorem step_wait_at (k : Fin 16) {s : Shape} (v : Memref sig .tc .vmem s .bf16) (hv : v.view.dmaCredit = NN k)
    (l : List (GSem nD τ sig × ℕ)) (hl : ∀ p ∈ l, p.1.1.2 = .tc ∧ lvS (.dma (dk k)) < lvS p.1.2)
    {h1 h2 : v.view.WordExact} {α : Type} {kk : PUnit → Prog (TpuEff nD τ sig (Elt F) Λ₀ .tc) α} {Q : α → sProp 𝕄} :
    iprop(invs Gq Go K ∗ levAts L lv ∗ cred (tallyAt (dcell c k) () (NN k)) ∗ owing c l ∗ atPos ER (dcell c k) 0 ∅ 0)
      ⊢ iprop(((owing c l ∗ atPos ER (dcell c k) (0 + 1) ∅ 0 ∗ pay Gq Go c k)
            -∗ wp frame (wpE defs₀ 𝒱₀ (c : Thread nD τ) none) Set.univ (kk ⟨⟩) Q)
          -∗ wp frame (wpE defs₀ 𝒱₀ (c : Thread nD τ) none) Set.univ (.op (.waitDma2 (dk k) v v h1 h2) kk) Q) :=
  step_wait Gq Go K c k l hl (fun Kp => by rw [← hv]; exact wpE_waitDma2_eq 𝒱₀ (c : Thread nD τ) none Set.univ Kp)

/-- A transfer into a neighbour's buffer of the same name: pays the own send cell with the source, the neighbour's receive
cell with the destination, both at the contents all devices agree on. -/
theorem step_send (ks kr : Fin 16) (c' c₁ : Dev nD) (hc : c₁ = c') {s : Shape} (v : Memref sig .tc .vmem s .bf16) (S : Finset v.view.ty.Idx) (hS : v.view.set = S)
    (G : v.view.ty.Contents (Elt F)) (q : PosShare TreeShare)
    (h1 : pay Gq Go c ks = (v.view.loc (c : Thread nD τ) ↦[S]{q} G : sProp 𝕄))
    (h2 : pay Gq Go c' kr = (v.view.loc (c' : Thread nD τ) ↦[S]{fullShare} G : sProp 𝕄))
    (hN : v.view.dmaCredit = NN kr) (hN' : NN ks = NN kr) (l : List (GSem nD τ sig × ℕ))
    {hsc : v.view.ref.isScScratch = false} {hsrc hdst : v.view.WordExact}
    {hsem : DmaTarget.Typed .vmem (.dma (dk kr)) (.remote (c₁ : Thread nD τ) v (.dma (dk ks)) hsc)}
    {α : Type} {kk : PUnit → Prog (TpuEff nD τ sig (Elt F) Λ₀ .tc) α} {Q : α → sProp 𝕄} (hr : τ.routes (c : Thread nD τ) (c₁ : Thread nD τ) = true := by routes) :
    iprop(invs Gq Go K ∗ (v.view.loc (c : Thread nD τ) ↦[S]{q} G) ∗ (∃ fd, v.view.loc (c' : Thread nD τ) ↦[S]{fullShare} fd)
        ∗ owing c ((dcell c' kr, NN kr) :: l) ∗ dutyTok ER (dcell c ks) 0 0 ∗ reached ER (dcell c ks) 0
        ∗ dutyTok ER (dcell c' kr) 0 0 ∗ reached ER (dcell c' kr) 0)
      ⊢ iprop(((cred (tallyAt (dcell c ks) () (NN ks)) ∗ owing c l)
            -∗ wp frame (wpE defs₀ 𝒱₀ (c : Thread nD τ) none) Set.univ (kk ⟨⟩) Q)
          -∗ wp frame (wpE defs₀ 𝒱₀ (c : Thread nD τ) none) Set.univ
            (.op (.enqueueDma v (.remote (c₁ : Thread nD τ) v (.dma (dk ks)) hsc) (.dma (dk kr)) hsrc hdst hsem) kk) Q) := by
  subst hS
  subst hc
  unfold owing
  iintro ⟨#HI, Hs, ⟨%fd, Hd⟩, ⟨%W, HO⟩, Hts, #Hrs, Htr, #Hrr⟩ Hk
  ihave #HI1 := (invs_dma Gq Go K c ks) $$ HI
  ihave #HI2 := (invs_dma Gq Go K c₁ kr) $$ HI
  iapply (Rounds.wp_send_pointsTo 𝒱₀ ER (Rd Gq Go) (c : Thread nD τ) none (c' := (c₁ : Thread nD τ)) (src := v) (dst := v)
      (sS := .dma (dk ks)) (sem := .dma (dk kr)) (q := q) (fs := G) (κ₁ := K (dcell c ks)) (κ₂ := K (dcell c₁ kr))
      (r₁ := 0) (r₂ := 0) (d₁ := 0) (d₂ := 0) (fd := fd)
      (by rw [duties_dma]; exact Finset.mem_singleton_self _) (by rw [duties_dma]; exact Finset.mem_singleton_self _)
      () () (NN kr) hN ((amount_dma Gq Go c ks 0).trans hN') (amount_dma Gq Go c₁ kr 0) (Osum l) rfl (W := W)
      (by rw [payload_dma, h1]) (by
        rw [payload_dma, h2]
        refine Entails.of_eq (pointsTo_congr fun i hi => ?_)
        obtain ⟨x, -, rfl⟩ := Finset.mem_map.mp hi
        rw [View.write_emb_of_mem _ _ (Finset.mem_univ _)]
        rw [View.read_apply, cast_cast, cast_eq]) hr) $$ [Hs Hd HO Hts Htr]
  · isplitr; · iexact HI1
    isplitr; · iexact HI2
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hc, HO⟩
  iapply Hk
  rw [hN']
  isplitl [Hc]; · iexact Hc
  iexists _; iexact HO

end Steps

end Cert.KernelIdeal.Own
-- ==== Proof.Parts.lean ====
module

public import proofs.«01_k».proof.Proof.Steps
public import Idealize.ShloMosaic.Lib.Pointwise

/-! The kernel's body, run on one device by the protocol. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat Cfg BodyObligation cellOf Seg HostSeg RegionSeg)
open Cert.KernelIdeal Cert.KernelIdeal.Gen

variable {F : FTy → Type} [FloatOps F]

local notation "𝕄" => MT nD τ sig Unit (Elt F) ℕ UU ℕ

section Contents

/-- The converted weights of one device, as its slots of the gather buffers hold them. -/
def wqc (f : A1.view.ty.Contents (Elt F)) : FVec F S1x512x256 .bf16 :=
  k0_pay9 (k0_pay8 (A1.view.readAt (Elt F) (Rect.unit (s := S512x256) ![0, 0] S512x256.size inb_S512x256_S512x256_0_0).toLoadRect f))
def woc (f : A4.view.ty.Contents (Elt F)) : FVec F S1x256x512 .bf16 :=
  k0_pay10 (A4.view.readAt (Elt F) (Rect.unit (s := S256x512) ![0, 0] S256x512.size inb_S256x512_S256x512_0_0).toLoadRect f)

/-- What the gather buffers hold once gathered, on every device. -/
def Gq (fw : Dev nD → A1.view.ty.Contents (Elt F)) : cc0_scratch0.ty.Contents (Elt F) :=
  fun (i : S4x512x256.Idx) => wqc (fw (i 0)) (fun | 0 => ⟨0, by decide⟩ | 1 => i 1 | 2 => i 2)
def Go (fo : Dev nD → A4.view.ty.Contents (Elt F)) : cc0_scratch1.ty.Contents (Elt F) :=
  fun (i : S4x256x512.Idx) => woc (fo (i 0)) (fun | 0 => ⟨0, by decide⟩ | 1 => i 1 | 2 => i 2)

theorem setOn_q (R : Rect S4x512x256) : (A6.view.setOn R.set : Finset S4x512x256.Idx) = R.set :=
  (View.set_slice A6.view R).symm.trans (View.set_slice_whole cc0_scratch0 R)
theorem setOn_o (R : Rect S4x256x512) : (A7.view.setOn R.set : Finset S4x256x512.Idx) = R.set :=
  (View.set_slice A7.view R).symm.trans (View.set_slice_whole cc0_scratch1 R)

theorem rectQ (p : Dev nD) {off : Fin 3 → ℕ} (h : off = ![p.val, 0, 0]) (inb) :
    (Rect.unit (s := S4x512x256) off S1x512x256.size inb).set = qSlot p := by subst h; rfl
theorem rectQT (p : Dev nD) {off : Fin 3 → ℕ} (h : off = ![p.val, 0, 0]) (inb) :
    (Rect.unit (s := S4x512x256) off S1x256x256.size inb).set = qTop p := by subst h; rfl
theorem rectQB (p : Dev nD) {off : Fin 3 → ℕ} (h : off = ![p.val, 256, 0]) (inb) :
    (Rect.unit (s := S4x512x256) off S1x256x256.size inb).set = qBot p := by subst h; rfl
theorem rectO (p : Dev nD) {off : Fin 3 → ℕ} (h : off = ![p.val, 0, 0]) (inb) :
    (Rect.unit (s := S4x256x512) off S1x256x512.size inb).set = oSlot p := by subst h; rfl
theorem rectOT (p : Dev nD) {off : Fin 3 → ℕ} (h : off = ![p.val, 0, 0]) (inb) :
    (Rect.unit (s := S4x256x512) off S1x128x512.size inb).set = oTop p := by subst h; rfl
theorem rectOB (p : Dev nD) {off : Fin 3 → ℕ} (h : off = ![p.val, 128, 0]) (inb) :
    (Rect.unit (s := S4x256x512) off S1x128x512.size inb).set = oBot p := by subst h; rfl

/-- The elements under a slot's squeezed view. -/
theorem viewQ (R : Rect S4x512x256) (hu) {s' : Shape} (sq) : ((A6.slice R hu).squeeze s' sq).view.set = R.set :=
  (View.set_reshape _ _).trans (View.set_slice_whole cc0_scratch0 R)
theorem viewO (R : Rect S4x256x512) (hu) {s' : Shape} (sq) : ((A7.slice R hu).squeeze s' sq).view.set = R.set :=
  (View.set_reshape _ _).trans (View.set_slice_whole cc0_scratch1 R)

/-- A slot, or half of one, of a gather buffer as the transfers name it. -/
abbrev vQ (off : Fin 3 → ℕ) (inb : ∀ a, off a + S1x512x256.size a ≤ S4x512x256.size a) : Memref sig .tc .vmem S512x256 .bf16 :=
  (A6.slice (Rect.unit (s := S4x512x256) off S1x512x256.size inb) (fun _ => rfl)).squeeze S512x256 squeezes_S1x512x256_S512x256
abbrev vQh (off : Fin 3 → ℕ) (inb : ∀ a, off a + S1x256x256.size a ≤ S4x512x256.size a) : Memref sig .tc .vmem S256x256 .bf16 :=
  (A6.slice (Rect.unit (s := S4x512x256) off S1x256x256.size inb) (fun _ => rfl)).squeeze S256x256 squeezes_S1x256x256_S256x256
abbrev vO (off : Fin 3 → ℕ) (inb : ∀ a, off a + S1x256x512.size a ≤ S4x256x512.size a) : Memref sig .tc .vmem S256x512 .bf16 :=
  (A7.slice (Rect.unit (s := S4x256x512) off S1x256x512.size inb) (fun _ => rfl)).squeeze S256x512 squeezes_S1x256x512_S256x512
abbrev vOh (off : Fin 3 → ℕ) (inb : ∀ a, off a + S1x128x512.size a ≤ S4x256x512.size a) : Memref sig .tc .vmem S128x512 .bf16 :=
  (A7.slice (Rect.unit (s := S4x256x512) off S1x128x512.size inb) (fun _ => rfl)).squeeze S128x512 squeezes_S1x128x512_S128x512

variable (c : Dev nD) (q : PosShare TreeShare)

/-- A slot held through the window a load reads is the slot. -/
theorem heldQ (p : Dev nD) {off : Fin 3 → ℕ} (h : off = ![p.val, 0, 0]) (inb) (G : cc0_scratch0.ty.Contents (Elt F)) :
    (A6.view.loc (c : Thread nD τ) ↦[A6.view.setOn (Rect.unit (s := S4x512x256) off S1x512x256.size inb).set]{q} G : sProp 𝕄)
      = qs c q (qSlot p) G := by
  rw [show (A6.view.setOn (Rect.unit (s := S4x512x256) off S1x512x256.size inb).set) = qSlot p from (setOn_q _).trans (rectQ p h inb)]
theorem heldO (p : Dev nD) {off : Fin 3 → ℕ} (h : off = ![p.val, 0, 0]) (inb) (G : cc0_scratch1.ty.Contents (Elt F)) :
    (A7.view.loc (c : Thread nD τ) ↦[A7.view.setOn (Rect.unit (s := S4x256x512) off S1x256x512.size inb).set]{q} G : sProp 𝕄)
      = os c q (oSlot p) G := by
  rw [show (A7.view.setOn (Rect.unit (s := S4x256x512) off S1x256x512.size inb).set) = oSlot p from (setOn_o _).trans (rectO p h inb)]

/-- The own slot once the converted weights are stored there. -/
theorem storedQ (fw : Dev nD → A1.view.ty.Contents (Elt F)) {off : Fin 3 → ℕ} (h : off = ![c.val, 0, 0]) (inb) (f : cc0_scratch0.ty.Contents (Elt F)) (w : FVec F S1x512x256 .bf16) (hw : w = wqc (fw c)) :
    (A6.view.loc (c : Thread nD τ) ↦[A6.view.setOn (Rect.unit (s := S4x512x256) off S1x512x256.size inb).set]{q}
        A6.view.writes (Elt F) f [⟨Rect.unit (s := S4x512x256) off S1x512x256.size inb, w⟩] : sProp 𝕄)
      = qs c q (qSlot c) (Gq fw) := by
  subst hw
  rw [← heldQ c q c h inb]
  refine pointsTo_congr fun i hi => ?_
  replace hi : i ∈ (A6.view.slice (Rect.unit (s := S4x512x256) off S1x512x256.size inb)).set := by rw [View.set_slice]; exact hi
  obtain ⟨x, -, rfl⟩ := Finset.mem_map.mp hi
  rw [View.writes_singleton]
  refine (View.write_emb_of_mem (v := A6.view.slice (Rect.unit (s := S4x512x256) off S1x512x256.size inb)) f (wqc (fw c)) (Finset.mem_univ x)).trans ?_
  subst h
  have h0 : (x 0).val = 0 := by have : (x 0).val < 1 := (x 0).isLt; omega
  refine (cast_eq _ _).trans ?_
  show wqc (fw c) x = wqc (fw _) _
  congr 1
  · congr 1; exact Fin.ext (by show c.val = c.val + 1 * (x 0).val; omega)
  · funext a
    fin_cases a
    · exact Fin.ext h0
    · exact Fin.ext (by show (x 1).val = 0 + 1 * (x 1).val; omega)
    · exact Fin.ext (by show (x 2).val = 0 + 1 * (x 2).val; omega)
theorem storedO (fo : Dev nD → A4.view.ty.Contents (Elt F)) {off : Fin 3 → ℕ} (h : off = ![c.val, 0, 0]) (inb) (f : cc0_scratch1.ty.Contents (Elt F)) (w : FVec F S1x256x512 .bf16) (hw : w = woc (fo c)) :
    (A7.view.loc (c : Thread nD τ) ↦[A7.view.setOn (Rect.unit (s := S4x256x512) off S1x256x512.size inb).set]{q}
        A7.view.writes (Elt F) f [⟨Rect.unit (s := S4x256x512) off S1x256x512.size inb, w⟩] : sProp 𝕄)
      = os c q (oSlot c) (Go fo) := by
  subst hw
  rw [← heldO c q c h inb]
  refine pointsTo_congr fun i hi => ?_
  replace hi : i ∈ (A7.view.slice (Rect.unit (s := S4x256x512) off S1x256x512.size inb)).set := by rw [View.set_slice]; exact hi
  obtain ⟨x, -, rfl⟩ := Finset.mem_map.mp hi
  rw [View.writes_singleton]
  refine (View.write_emb_of_mem (v := A7.view.slice (Rect.unit (s := S4x256x512) off S1x256x512.size inb)) f (woc (fo c)) (Finset.mem_univ x)).trans ?_
  subst h
  have h0 : (x 0).val = 0 := by have : (x 0).val < 1 := (x 0).isLt; omega
  refine (cast_eq _ _).trans ?_
  show woc (fo c) x = woc (fo _) _
  congr 1
  · congr 1; exact Fin.ext (by show c.val = c.val + 1 * (x 0).val; omega)
  · funext a
    fin_cases a
    · exact Fin.ext h0
    · exact Fin.ext (by show (x 1).val = 0 + 1 * (x 1).val; omega)
    · exact Fin.ext (by show (x 2).val = 0 + 1 * (x 2).val; omega)

/-- An assertion laid aside until a later step. -/
def aside (P : sProp 𝕄) : sProp 𝕄 := P
theorem aside_eq (P : sProp 𝕄) : aside P = P := rfl

/-- Elements at a share are the same elements at its two halves. -/
theorem halves {ℓ : Loc nD τ sig} {I : Finset (Idx ℓ)} (f : Buf (Elt F) ℓ) :
    (ℓ ↦[I]{q} f : sProp 𝕄) ⊣⊢ iprop((ℓ ↦[I]{q.left} f) ∗ ℓ ↦[I]{q.right} f) :=
  pointsTo_share (PosShare.mem_left_op_right q)

end Contents

/-! ## The ghost state a device starts its body with -/

section Ghost

variable (G : cc0_scratch0.ty.Contents (Elt F)) (H : cc0_scratch1.ty.Contents (Elt F))

theorem bigSep16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- The credit a device waits with on its receive cells. -/
def credR (c : Dev nD) (k : Fin 16) : sProp 𝕄 := if k.val / 4 % 2 = 0 then iprop(emp) else cred (tallyAt (dcell c k) () (NN k))

/-- What a device starts its body with: the invariants, its places, its duties, its credits, what it owes. -/
def opened (K : GSem nD τ sig → ℕ) (c : Dev nD) : sProp 𝕄 :=
  iprop(invs G H K ∗ levAts L lv ∗ reached ER (barCell (lft c)) 0 ∗ reached ER (barCell (rgt c)) 0
    ∗ atPos ER (barCell c) 0 ∅ 0 ∗ dutyTok ER (barCell (lft c)) 0 0 ∗ dutyTok ER (barCell (rgt c)) 0 1 ∗ cred (tallyAt (barCell c) () 2)
    ∗ bigSep Finset.univ (fun k : Fin 16 => reached ER (dcell c k) 0)
    ∗ bigSep Finset.univ (fun k : Fin 16 => atPos ER (dcell c k) 0 ∅ 0)
    ∗ bigSep Finset.univ (fun k : Fin 16 => dutyTok ER (dcell (who k c) k) 0 0)
    ∗ bigSep Finset.univ (fun k : Fin 16 => credR (F := F) c k)
    ∗ owing c (owedL c))

/-- The ghost state with the transfer cells listed. -/
theorem opened_eq (K : GSem nD τ sig → ℕ) (c : Dev nD) : opened G H K c
    = iprop(invs G H K ∗ levAts L lv ∗ reached ER (barCell (lft c)) 0 ∗ reached ER (barCell (rgt c)) 0
    ∗ atPos ER (barCell c) 0 ∅ 0 ∗ dutyTok ER (barCell (lft c)) 0 0 ∗ dutyTok ER (barCell (rgt c)) 0 1 ∗ cred (tallyAt (barCell c) () 2)
    ∗ (reached ER (dcell c 0) 0 ∗ reached ER (dcell c 1) 0 ∗ reached ER (dcell c 2) 0 ∗ reached ER (dcell c 3) 0
      ∗ reached ER (dcell c 4) 0 ∗ reached ER (dcell c 5) 0 ∗ reached ER (dcell c 6) 0 ∗ reached ER (dcell c 7) 0
      ∗ reached ER (dcell c 8) 0 ∗ reached ER (dcell c 9) 0 ∗ reached ER (dcell c 10) 0 ∗ reached ER (dcell c 11) 0
      ∗ reached ER (dcell c 12) 0 ∗ reached ER (dcell c 13) 0 ∗ reached ER (dcell c 14) 0 ∗ reached ER (dcell c 15) 0)
    ∗ (atPos ER (dcell c 0) 0 ∅ 0 ∗ atPos ER (dcell c 1) 0 ∅ 0 ∗ atPos ER (dcell c 2) 0 ∅ 0 ∗ atPos ER (dcell c 3) 0 ∅ 0
      ∗ atPos ER (dcell c 4) 0 ∅ 0 ∗ atPos ER (dcell c 5) 0 ∅ 0 ∗ atPos ER (dcell c 6) 0 ∅ 0 ∗ atPos ER (dcell c 7) 0 ∅ 0
      ∗ atPos ER (dcell c 8) 0 ∅ 0 ∗ atPos ER (dcell c 9) 0 ∅ 0 ∗ atPos ER (dcell c 10) 0 ∅ 0 ∗ atPos ER (dcell c 11) 0 ∅ 0
      ∗ atPos ER (dcell c 12) 0 ∅ 0 ∗ atPos ER (dcell c 13) 0 ∅ 0 ∗ atPos ER (dcell c 14) 0 ∅ 0 ∗ atPos ER (dcell c 15) 0 ∅ 0)
    ∗ (dutyTok ER (dcell c 0) 0 0 ∗ dutyTok ER (dcell c 1) 0 0 ∗ dutyTok ER (dcell c 2) 0 0 ∗ dutyTok ER (dcell c 3) 0 0
      ∗ dutyTok ER (dcell (rgt c) 4) 0 0 ∗ dutyTok ER (dcell (lft c) 5) 0 0 ∗ dutyTok ER (dcell (rgt c) 6) 0 0 ∗ dutyTok ER (dcell (lft c) 7) 0 0
      ∗ dutyTok ER (dcell c 8) 0 0 ∗ dutyTok ER (dcell c 9) 0 0 ∗ dutyTok ER (dcell c 10) 0 0 ∗ dutyTok ER (dcell c 11) 0 0
      ∗ dutyTok ER (dcell (rgt c) 12) 0 0 ∗ dutyTok ER (dcell (lft c) 13) 0 0 ∗ dutyTok ER (dcell (rgt c) 14) 0 0 ∗ dutyTok ER (dcell (lft c) 15) 0 0)
    ∗ (cred (tallyAt (dcell c 4) () (NN 4)) ∗ cred (tallyAt (dcell c 5) () (NN 5)) ∗ cred (tallyAt (dcell c 6) () (NN 6)) ∗ cred (tallyAt (dcell c 7) () (NN 7))
      ∗ cred (tallyAt (dcell c 12) () (NN 12)) ∗ cred (tallyAt (dcell c 13) () (NN 13)) ∗ cred (tallyAt (dcell c 14) () (NN 14)) ∗ cred (tallyAt (dcell c 15) () (NN 15)))
    ∗ owing c (owedL c)) := by
  have hc : (bigSep Finset.univ (fun k : Fin 16 => credR (F := F) c k) : sProp 𝕄)
      = iprop(cred (tallyAt (dcell c 4) () (NN 4)) ∗ cred (tallyAt (dcell c 5) () (NN 5)) ∗ cred (tallyAt (dcell c 6) () (NN 6)) ∗ cred (tallyAt (dcell c 7) () (NN 7))
      ∗ cred (tallyAt (dcell c 12) () (NN 12)) ∗ cred (tallyAt (dcell c 13) () (NN 13)) ∗ cred (tallyAt (dcell c 14) () (NN 14)) ∗ cred (tallyAt (dcell c 15) () (NN 15))) := by
    rw [bigSep16]
    have he : ∀ k : Fin 16, k.val / 4 % 2 = 0 → credR (F := F) c k = iprop(emp) := fun k h => if_pos h
    rw [he 0 (by decide), he 1 (by decide), he 2 (by decide), he 3 (by decide), he 8 (by decide), he 9 (by decide), he 10 (by decide), he 11 (by decide)]
    have hs : ∀ P : sProp 𝕄, iprop(emp ∗ P) = P := fun P => BI.equiv_iff.mp BI.emp_sep
    simp only [hs]
    rfl
  unfold opened
  rw [hc, bigSep16, bigSep16, bigSep16]
  rfl

/-- What a device hands to its left neighbour, and to its right one, at the barrier. -/
theorem barPay_0 (c : Dev nD) : barPay (F := F) (lft c) 0
    = iprop((∃ f, qs c fullShare (qSlot (lft c)) f) ∗ (∃ f, qs c fullShare (qTop (opp c)) f)
      ∗ (∃ f, os c fullShare (oSlot (lft c)) f) ∗ (∃ f, os c fullShare (oTop (opp c)) f)
      ∗ reached ER (dcell c 4) 0 ∗ reached ER (dcell c 6) 0 ∗ reached ER (dcell c 12) 0 ∗ reached ER (dcell c 14) 0) := by
  unfold barPay
  rw [if_pos rfl, rgt_lft, show lft (lft c) = opp c from by revert c; decide]
theorem barPay_1 (c : Dev nD) : barPay (F := F) (rgt c) 1
    = iprop((∃ f, qs c fullShare (qSlot (rgt c)) f) ∗ (∃ f, qs c fullShare (qBot (opp c)) f)
      ∗ (∃ f, os c fullShare (oSlot (rgt c)) f) ∗ (∃ f, os c fullShare (oBot (opp c)) f)
      ∗ reached ER (dcell c 5) 0 ∗ reached ER (dcell c 7) 0 ∗ reached ER (dcell c 13) 0 ∗ reached ER (dcell c 15) 0) := by
  unfold barPay
  rw [if_neg (by decide), lft_rgt, show rgt (rgt c) = opp c from by revert c; decide]
/-- What a device is handed at its barrier. -/
theorem barPay_own0 (c : Dev nD) : barPay (F := F) c 0
    = iprop((∃ f, qs (rgt c) fullShare (qSlot c) f) ∗ (∃ f, qs (rgt c) fullShare (qTop (lft c)) f)
      ∗ (∃ f, os (rgt c) fullShare (oSlot c) f) ∗ (∃ f, os (rgt c) fullShare (oTop (lft c)) f)
      ∗ reached ER (dcell (rgt c) 4) 0 ∗ reached ER (dcell (rgt c) 6) 0 ∗ reached ER (dcell (rgt c) 12) 0 ∗ reached ER (dcell (rgt c) 14) 0) :=
  if_pos rfl
theorem barPay_own1 (c : Dev nD) : barPay (F := F) c 1
    = iprop((∃ f, qs (lft c) fullShare (qSlot c) f) ∗ (∃ f, qs (lft c) fullShare (qBot (rgt c)) f)
      ∗ (∃ f, os (lft c) fullShare (oSlot c) f) ∗ (∃ f, os (lft c) fullShare (oBot (rgt c)) f)
      ∗ reached ER (dcell (lft c) 5) 0 ∗ reached ER (dcell (lft c) 7) 0 ∗ reached ER (dcell (lft c) 13) 0 ∗ reached ER (dcell (lft c) 15) 0) :=
  if_neg (by decide)

/-- The levels of what is owed lie above those of what is waited on. -/
theorem low_bar (c : Dev nD) : ∀ p ∈ owed1 c, p.1.1.2 = .tc ∧ lvS (.reg barS) < lvS p.1.2 := by
  simp only [owed1, owed2, List.forall_mem_cons]
  refine ⟨?_, ?_, ?_, ?_, ?_, ?_, ?_, ?_, fun _ h => absurd h List.not_mem_nil⟩ <;> first | exact ⟨rfl, by decide⟩ | exact ⟨trivial, by decide⟩
theorem low_hop (c : Dev nD) (k : Fin 16) (h : lvS (.dma (dk k)) < 3) : ∀ p ∈ owed2 c, p.1.1.2 = .tc ∧ lvS (.dma (dk k)) < lvS p.1.2 := by
  simp only [owed2, List.forall_mem_cons]
  refine ⟨?_, ?_, ?_, ?_, fun _ h => absurd h List.not_mem_nil⟩ <;> first | exact ⟨rfl, h⟩ | exact ⟨trivial, h⟩
theorem low_nil (sm : SemLoc sig) : ∀ p ∈ ([] : List (GSem nD τ sig × ℕ)), p.1.1.2 = .tc ∧ lvS sm < lvS p.1.2 :=
  fun _ h => absurd h List.not_mem_nil

/-- Every counter back in hand at zero. -/
def closedSems (c : Dev nD) : sProp 𝕄 :=
  iprop(semVal (barCell c) 0 ∗ bigSep Finset.univ (fun k : Fin 16 => semVal (dcell c k) 0))

theorem close_cell (K : GSem nD τ sig → ℕ) (g : GSem nD τ sig) :
    iprop(cellInv ER (Rd G H) (K g) g ∗ atPos ER g (0 + 1) ∅ 0) ⊢ (|={Set.univ}=> semVal g 0 : sProp 𝕄) :=
  Rounds.cell_close ER (Rd G H) (Set.mem_univ (K g)) id (duties_later G H g)

theorem close_at (K : GSem nD τ sig → ℕ) (c : Dev nD) (k : Fin 16) :
    iprop(invs G H K ∗ atPos ER (dcell c k) (0 + 1) ∅ 0) ⊢ (|={Set.univ}=> semVal (dcell c k) 0 : sProp 𝕄) := by
  iintro ⟨#HI, Ha⟩
  iapply (close_cell G H K (dcell c k))
  isplitr; · iapply (invs_dma G H K c k); iexact HI
  iexact Ha

/-- All of a device's cells closed at once. -/
theorem close_all (K : GSem nD τ sig → ℕ) (c : Dev nD) :
    iprop(invs G H K ∗ atPos ER (barCell c) (0 + 1) ∅ 0
      ∗ (atPos ER (dcell c 0) (0 + 1) ∅ 0 ∗ atPos ER (dcell c 1) (0 + 1) ∅ 0 ∗ atPos ER (dcell c 2) (0 + 1) ∅ 0 ∗ atPos ER (dcell c 3) (0 + 1) ∅ 0
      ∗ atPos ER (dcell c 4) (0 + 1) ∅ 0 ∗ atPos ER (dcell c 5) (0 + 1) ∅ 0 ∗ atPos ER (dcell c 6) (0 + 1) ∅ 0 ∗ atPos ER (dcell c 7) (0 + 1) ∅ 0
      ∗ atPos ER (dcell c 8) (0 + 1) ∅ 0 ∗ atPos ER (dcell c 9) (0 + 1) ∅ 0 ∗ atPos ER (dcell c 10) (0 + 1) ∅ 0 ∗ atPos ER (dcell c 11) (0 + 1) ∅ 0
      ∗ atPos ER (dcell c 12) (0 + 1) ∅ 0 ∗ atPos ER (dcell c 13) (0 + 1) ∅ 0 ∗ atPos ER (dcell c 14) (0 + 1) ∅ 0 ∗ atPos ER (dcell c 15) (0 + 1) ∅ 0))
      ⊢ (|={Set.univ}=> closedSems c : sProp 𝕄) := by
  iintro ⟨#HI, HB, HA⟩
  ihave HA := (Entails.of_eq (bigSep16 (fun k : Fin 16 => (atPos ER (dcell c k) (0 + 1) ∅ 0 : sProp 𝕄))).symm) $$ HA
  imod (close_cell G H K (barCell c)) $$ [HB] with HB
  · isplitr; · iapply (invs_bar G H K c); iexact HI
    iexact HB
  ihave HA := (bigSep_with_persistent (S := Finset.univ) (R := invs G H K) (Φ := fun k : Fin 16 => atPos ER (dcell c k) (0 + 1) ∅ 0)
    (Ψ := fun k : Fin 16 => iprop(|={Set.univ}=> semVal (dcell c k) 0)) fun k _ => close_at G H K c k) $$ [HA]
  · isplitr; · iexact HI
    iexact HA
  imod (bigSep_fupd (Finset.univ : Finset (Fin 16)) _) $$ HA with HA
  imodintro
  unfold closedSems
  isplitl [HB]; · iexact HB
  iexact HA

/-- The first gather buffer whole again. -/
theorem joinQ (c : Dev nD) {o1 o2 o3 o4} (h1 : o1 = ![c.val, 0, 0]) (h2 : o2 = ![(lft c).val, 0, 0]) (h3 : o3 = ![(rgt c).val, 0, 0])
    (h4 : o4 = ![(opp c).val, 0, 0]) (i1 i2 i3 i4) :
    iprop(aside (A6.view.loc (c : Thread nD τ) ↦[A6.view.setOn (Rect.unit (s := S4x512x256) o1 S1x512x256.size i1).set]{fullShare.right.right} G)
      ∗ pay G H c 0 ∗ pay G H c 1
      ∗ aside (A6.view.loc (c : Thread nD τ) ↦[A6.view.setOn (Rect.unit (s := S4x512x256) o2 S1x512x256.size i2).set]{fullShare.right} G)
      ∗ pay G H c 2 ∗ aside (qs c fullShare.left (qBot (lft c)) G)
      ∗ aside (A6.view.loc (c : Thread nD τ) ↦[A6.view.setOn (Rect.unit (s := S4x512x256) o3 S1x512x256.size i3).set]{fullShare.right} G)
      ∗ aside (qs c fullShare.left (qTop (rgt c)) G) ∗ pay G H c 3
      ∗ (A6.view.loc (c : Thread nD τ) ↦[A6.view.setOn (Rect.unit (s := S4x512x256) o4 S1x512x256.size i4).set]{fullShare} G))
      ⊢ (qs c fullShare Finset.univ G : sProp 𝕄) := by
  rw [heldQ c _ c h1, heldQ c _ (lft c) h2, heldQ c _ (rgt c) h3, heldQ c _ (opp c) h4]
  show iprop(qs c fullShare.right.right (qSlot c) G ∗ qs c fullShare.left (qSlot c) G ∗ qs c fullShare.right.left (qSlot c) G
    ∗ qs c fullShare.right (qSlot (lft c)) G ∗ qs c fullShare.left (qTop (lft c)) G ∗ qs c fullShare.left (qBot (lft c)) G
    ∗ qs c fullShare.right (qSlot (rgt c)) G ∗ qs c fullShare.left (qTop (rgt c)) G ∗ qs c fullShare.left (qBot (rgt c)) G
    ∗ qs c fullShare (qSlot (opp c)) G) ⊢ _
  iintro ⟨Ha, Hb, Hc, Hd, He, Hf, Hg, Hh, Hi, Hj⟩
  iapply (qs_all c fullShare G).2
  isplitl [Ha Hb Hc]
  · iapply (halves fullShare G).2
    isplitl [Hb]; · iexact Hb
    iapply (halves fullShare.right G).2
    isplitl [Hc]; · iexact Hc
    iexact Ha
  isplitl [Hd He Hf]
  · iapply (halves fullShare G).2
    isplitr [Hd]
    · iapply (qs_half c fullShare.left (lft c) G).2
      isplitl [He]; · iexact He
      iexact Hf
    iexact Hd
  isplitl [Hg Hh Hi]
  · iapply (halves fullShare G).2
    isplitr [Hg]
    · iapply (qs_half c fullShare.left (rgt c) G).2
      isplitl [Hh]; · iexact Hh
      iexact Hi
    iexact Hg
  iexact Hj

/-- The second gather buffer whole again. -/
theorem joinO (c : Dev nD) {o1 o2 o3 o4} (h1 : o1 = ![c.val, 0, 0]) (h2 : o2 = ![(lft c).val, 0, 0]) (h3 : o3 = ![(rgt c).val, 0, 0])
    (h4 : o4 = ![(opp c).val, 0, 0]) (i1 i2 i3 i4) :
    iprop(aside (A7.view.loc (c : Thread nD τ) ↦[A7.view.setOn (Rect.unit (s := S4x256x512) o1 S1x256x512.size i1).set]{fullShare.right.right} H)
      ∗ pay G H c 8 ∗ pay G H c 9
      ∗ aside (A7.view.loc (c : Thread nD τ) ↦[A7.view.setOn (Rect.unit (s := S4x256x512) o2 S1x256x512.size i2).set]{fullShare.right} H)
      ∗ pay G H c 10 ∗ aside (os c fullShare.left (oBot (lft c)) H)
      ∗ aside (A7.view.loc (c : Thread nD τ) ↦[A7.view.setOn (Rect.unit (s := S4x256x512) o3 S1x256x512.size i3).set]{fullShare.right} H)
      ∗ aside (os c fullShare.left (oTop (rgt c)) H) ∗ pay G H c 11
      ∗ (A7.view.loc (c : Thread nD τ) ↦[A7.view.setOn (Rect.unit (s := S4x256x512) o4 S1x256x512.size i4).set]{fullShare} H))
      ⊢ (os c fullShare Finset.univ H : sProp 𝕄) := by
  rw [heldO c _ c h1, heldO c _ (lft c) h2, heldO c _ (rgt c) h3, heldO c _ (opp c) h4]
  show iprop(os c fullShare.right.right (oSlot c) H ∗ os c fullShare.left (oSlot c) H ∗ os c fullShare.right.left (oSlot c) H
    ∗ os c fullShare.right (oSlot (lft c)) H ∗ os c fullShare.left (oTop (lft c)) H ∗ os c fullShare.left (oBot (lft c)) H
    ∗ os c fullShare.right (oSlot (rgt c)) H ∗ os c fullShare.left (oTop (rgt c)) H ∗ os c fullShare.left (oBot (rgt c)) H
    ∗ os c fullShare (oSlot (opp c)) H) ⊢ _
  iintro ⟨Ha, Hb, Hc, Hd, He, Hf, Hg, Hh, Hi, Hj⟩
  iapply (os_all c fullShare H).2
  isplitl [Ha Hb Hc]
  · iapply (halves fullShare H).2
    isplitl [Hb]; · iexact Hb
    iapply (halves fullShare.right H).2
    isplitl [Hc]; · iexact Hc
    iexact Ha
  isplitl [Hd He Hf]
  · iapply (halves fullShare H).2
    isplitr [Hd]
    · iapply (os_half c fullShare.left (lft c) H).2
      isplitl [He]; · iexact He
      iexact Hf
    iexact Hd
  isplitl [Hg Hh Hi]
  · iapply (halves fullShare H).2
    isplitr [Hg]
    · iapply (os_half c fullShare.left (rgt c) H).2
      isplitl [Hh]; · iexact Hh
      iexact Hi
    iexact Hg
  iexact Hj

end Ghost

end Cert.KernelIdeal.Own
-- ==== Proof.Body.lean ====
module

public import proofs.«01_k».proof.Proof.Parts

/-! The kernel's body, run on one device by the protocol. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat Cfg BodyObligation cellOf Seg HostSeg RegionSeg)
open Cert.KernelIdeal Cert.KernelIdeal.Gen

variable {F : FTy → Type} [FloatOps F]

local notation "𝕄" => MT nD τ sig Unit (Elt F) ℕ UU ℕ

section Body

theorem dev1 (c : Dev nD) : (⟨k0_dev1 c, k0_dev1_lt c⟩ : Dev nD) = lft c := Fin.ext (k0_dev1_eq c)
theorem dev2 (c : Dev nD) : (⟨k0_dev2 c, k0_dev2_lt c⟩ : Dev nD) = rgt c := Fin.ext (k0_dev2_eq c)
theorem dev3 (c : Dev nD) : (⟨k0_dev3 c, k0_dev3_lt c⟩ : Dev nD) = rgt c := Fin.ext (k0_dev3_eq c)
theorem dev4 (c : Dev nD) : (⟨k0_dev4 c, k0_dev4_lt c⟩ : Dev nD) = rgt c := Fin.ext (k0_dev4_eq c)
theorem dev5 (c : Dev nD) : (⟨k0_dev5 c, k0_dev5_lt c⟩ : Dev nD) = lft c := Fin.ext (k0_dev5_eq c)
theorem dev6 (c : Dev nD) : (⟨k0_dev6 c, k0_dev6_lt c⟩ : Dev nD) = lft c := Fin.ext (k0_dev6_eq c)
theorem dev7 (c : Dev nD) : (⟨k0_dev7 c, k0_dev7_lt c⟩ : Dev nD) = rgt c := Fin.ext (k0_dev7_eq c)
theorem dev8 (c : Dev nD) : (⟨k0_dev8 c, k0_dev8_lt c⟩ : Dev nD) = rgt c := Fin.ext (k0_dev8_eq c)
theorem dev9 (c : Dev nD) : (⟨k0_dev9 c, k0_dev9_lt c⟩ : Dev nD) = lft c := Fin.ext (k0_dev9_eq c)
theorem dev10 (c : Dev nD) : (⟨k0_dev10 c, k0_dev10_lt c⟩ : Dev nD) = lft c := Fin.ext (k0_dev10_eq c)

theorem k0_off17_lft (c : Dev nD) : k0_off17 c 3#32 = ![(lft c).val, 0, 0] := k0_off17_eq c 2
theorem k0_off17_rgt (c : Dev nD) : k0_off17 c 1#32 = ![(rgt c).val, 0, 0] := k0_off17_eq c 0
theorem k0_off17_opp (c : Dev nD) : k0_off17 c 2#32 = ![(opp c).val, 0, 0] := k0_off17_eq c 1
theorem k0_off18_lft (c : Dev nD) : k0_off18 c 3#32 = ![(lft c).val, 0, 0] := k0_off18_eq c 2
theorem k0_off18_rgt (c : Dev nD) : k0_off18 c 1#32 = ![(rgt c).val, 0, 0] := k0_off18_eq c 0
theorem k0_off18_opp (c : Dev nD) : k0_off18 c 2#32 = ![(opp c).val, 0, 0] := k0_off18_eq c 1

variable (fw : Dev nD → A1.view.ty.Contents (Elt F)) (fo : Dev nD → A4.view.ty.Contents (Elt F))
variable (c : Dev nD)

/-- The body's post: counters closed, every operand kept, the result at what the stores leave. -/
def bodyPost (w1 : A1.view.ty.Contents (Elt F)) (w4 : A4.view.ty.Contents (Elt F)) (f0 : A0.view.ty.Contents (Elt F)) (f2 : A2.view.ty.Contents (Elt F)) (f3 : A3.view.ty.Contents (Elt F))
    (f5 : A5.view.ty.Contents (Elt F)) (l : List (View.Piece (Elt F) S2x256x512 .f32)) : sProp 𝕄 :=
  iprop(closedSems c
    ∗ (A0.view.loc (c : Thread nD τ) ↦{fullShare} f0) ∗ (A1.view.loc (c : Thread nD τ) ↦{fullShare} w1)
    ∗ (A2.view.loc (c : Thread nD τ) ↦{fullShare} f2) ∗ (A3.view.loc (c : Thread nD τ) ↦{fullShare} f3)
    ∗ (A4.view.loc (c : Thread nD τ) ↦{fullShare} w4)
    ∗ (A5.view.loc (c : Thread nD τ) ↦{fullShare} A5.view.writes (Elt F) f5 l)
    ∗ (∃ f, A6.view.loc (c : Thread nD τ) ↦{fullShare} f) ∗ (∃ f, A7.view.loc (c : Thread nD τ) ↦{fullShare} f)
    ∗ (∃ f, A8.view.loc (c : Thread nD τ) ↦{fullShare} f) ∗ (∃ f, A9.view.loc (c : Thread nD τ) ↦{fullShare} f)
    ∗ owing c [])

set_option maxHeartbeats 4000000 in
/-- The body run on device `c`, and the stores its result is left with: they do not depend on what any buffer held before. -/
def body (f0 : A0.view.ty.Contents (Elt F)) (f2 : A2.view.ty.Contents (Elt F)) (f3 : A3.view.ty.Contents (Elt F)) :
    { l : List (View.Piece (Elt F) S2x256x512 .f32) //
      ∀ (K : GSem nD τ sig → ℕ) (f5 : A5.view.ty.Contents (Elt F)) (f6 : A6.view.ty.Contents (Elt F)) (f7 : A7.view.ty.Contents (Elt F))
        (f8 : A8.view.ty.Contents (Elt F)) (f9 : A9.view.ty.Contents (Elt F)),
    (iprop(opened (Gq fw) (Go fo) K c
      ∗ (A0.view.loc (c : Thread nD τ) ↦{fullShare} f0) ∗ (A1.view.loc (c : Thread nD τ) ↦{fullShare} fw c)
      ∗ (A2.view.loc (c : Thread nD τ) ↦{fullShare} f2) ∗ (A3.view.loc (c : Thread nD τ) ↦{fullShare} f3)
      ∗ (A4.view.loc (c : Thread nD τ) ↦{fullShare} fo c)
      ∗ (A5.view.loc (c : Thread nD τ) ↦{fullShare} f5)
      ∗ (A6.view.loc (c : Thread nD τ) ↦{fullShare} f6) ∗ (A7.view.loc (c : Thread nD τ) ↦{fullShare} f7)
      ∗ (A8.view.loc (c : Thread nD τ) ↦{fullShare} f8) ∗ (A9.view.loc (c : Thread nD τ) ↦{fullShare} f9)) : sProp 𝕄)
    ⊢ wp frame (wpE defs₀ 𝒱₀ (c : Thread nD τ) none) Set.univ (cc0_body (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7)
     (fun _ => bodyPost c (fw c) (fo c) f0 f2 f3 f5 l) } := by
  refine ⟨?l, fun K f5 f6 f7 f8 f9 => ?_⟩
  rotate_left
  iintro ⟨Hopen, H0, H1, H2, H3, H4, H5, H6, H7, H8, H9⟩
  ihave Hopen := (Entails.of_eq (opened_eq (Gq fw) (Go fo) K c)) $$ Hopen
  icases Hopen with ⟨#HI, #Hlev, #HrBL, #HrBR, HatB, HtBL, HtBR, HcB,
    ⟨#Hr0, #Hr1, #Hr2, #Hr3, #Hr4, #Hr5, #Hr6, #Hr7, #Hr8, #Hr9, #Hr10, #Hr11, #Hr12, #Hr13, #Hr14, #Hr15⟩,
    ⟨Ha0, Ha1, Ha2, Ha3, Ha4, Ha5, Ha6, Ha7, Ha8, Ha9, Ha10, Ha11, Ha12, Ha13, Ha14, Ha15⟩,
    ⟨Ht0, Ht1, Ht2, Ht3, Ht4, Ht5, Ht6, Ht7, Ht8, Ht9, Ht10, Ht11, Ht12, Ht13, Ht14, Ht15⟩,
    ⟨Hc4, Hc5, Hc6, Hc7, Hc12, Hc13, Hc14, Hc15⟩, HO⟩
  -- the two gather buffers by slots
  ihave H6' := (qs_all c fullShare f6).1 $$ H6
  icases H6' with ⟨H6m, H6l, H6r, H6o⟩
  ihave H6o' := (qs_half c fullShare (opp c) f6).1 $$ H6o
  icases H6o' with ⟨H6t, H6b⟩
  ihave H6m := (Entails.of_eq (heldQ c fullShare c (k0_off1_eq c) (k0_off1_inb c) f6).symm) $$ H6m
  ihave H7' := (os_all c fullShare f7).1 $$ H7
  icases H7' with ⟨H7m, H7l, H7r, H7o⟩
  ihave H7o' := (os_half c fullShare (opp c) f7).1 $$ H7o
  icases H7o' with ⟨H7t, H7b⟩
  ihave H7m := (Entails.of_eq (heldO c fullShare c (k0_off2_eq c) (k0_off2_inb c) f7).symm) $$ H7m
  dsimp -proj only [cc0_body_eq_skeleton, cc0_body_skel, k0_part37_eq_skeleton, k0_part37_skel]
  dsimp -proj only [k0_part1_eq_skeleton, k0_part3_eq_skeleton, k0_part4_eq_skeleton, k0_part11_eq_skeleton, k0_part12_eq_skeleton,
    k0_part13_eq_skeleton, k0_part14_eq_skeleton, k0_part15_eq_skeleton, k0_part29_eq_skeleton, k0_part30_eq_skeleton,
    k0_part31_eq_skeleton]
  sl_exec_parts
  -- the barrier: what the left neighbour writes here goes to it, what the right one writes here to it
  iapply (step_signal (Gq fw) (Go fo) K c (lft c) _ (dev1 c) 0 ((barCell (rgt c), 1) :: owed1 c)) $$ [HtBL H6l H6t H7l H7t HO]
  · isplitr; · iexact HI
    isplitr; · iexact HrBL
    isplitl [HtBL]; · iexact HtBL
    isplitr [HO]
    · iapply (Entails.of_eq (barPay_0 c).symm)
      isplitl [H6l]; · iexists f6; iexact H6l
      isplitl [H6t]; · iexists f6; iexact H6t
      isplitl [H7l]; · iexists f7; iexact H7l
      isplitl [H7t]; · iexists f7; iexact H7t
      isplitr; · iexact Hr4
      isplitr; · iexact Hr6
      isplitr; · iexact Hr12
      iexact Hr14
    iexact HO
  iintro HO
  sl_exec_parts
  iapply (step_signal (Gq fw) (Go fo) K c (rgt c) _ (dev2 c) 1 (owed1 c)) $$ [HtBR H6r H6b H7r H7b HO]
  · isplitr; · iexact HI
    isplitr; · iexact HrBR
    isplitl [HtBR]; · iexact HtBR
    isplitr [HO]
    · iapply (Entails.of_eq (barPay_1 c).symm)
      isplitl [H6r]; · iexists f6; iexact H6r
      isplitl [H6b]; · iexists f6; iexact H6b
      isplitl [H7r]; · iexists f7; iexact H7r
      isplitl [H7b]; · iexists f7; iexact H7b
      isplitr; · iexact Hr5
      isplitr; · iexact Hr7
      isplitr; · iexact Hr13
      iexact Hr15
    iexact HO
  iintro HO
  sl_exec_parts
  iapply (step_wait_bar (Gq fw) (Go fo) K c (owed1 c) (low_bar c)) $$ [HcB HO HatB]
  · isplitr; · iexact HI
    isplitr; · iexact Hlev
    isplitl [HcB]; · iexact HcB
    isplitl [HO]; · iexact HO
    iexact HatB
  iintro ⟨HO, HatB, HB0, HB1⟩
  ihave HB0 := (Entails.of_eq (barPay_own0 c)) $$ HB0
  ihave HB1 := (Entails.of_eq (barPay_own1 c)) $$ HB1
  icases HB0 with ⟨H6R, H6RT, H7R, H7RT, #HR4, #HR6, #HR12, #HR14⟩
  icases HB1 with ⟨H6L, H6LB, H7L, H7LB, #HL5, #HL7, #HL13, #HL15⟩
  sl_exec_parts
  -- the own slots hold the converted weights; one part of each for each direction, one to read from
  ihave H6m := (Entails.of_eq (storedQ c fullShare fw (k0_off1_eq c) (k0_off1_inb c) f6 (k0_pay9 (body.sl.r fw c)) rfl)) $$ H6m
  ihave H7m := (Entails.of_eq (storedO c fullShare fo (k0_off2_eq c) (k0_off2_inb c) f7
    (k0_pay10 (A4.view.readAt (Elt F) (Rect.unit (s := S256x512) ![0, 0] S256x512.size inb_S256x512_S256x512_0_0).toLoadRect (fo c))) rfl)) $$ H7m
  ihave H6m := (halves fullShare _).1 $$ H6m
  icases H6m with ⟨H6a, H6m⟩
  ihave H6m := (halves fullShare.right _).1 $$ H6m
  icases H6m with ⟨H6b, H6m⟩
  ihave H7m := (halves fullShare _).1 $$ H7m
  icases H7m with ⟨H7a, H7m⟩
  ihave H7m := (halves fullShare.right _).1 $$ H7m
  icases H7m with ⟨H7b, H7m⟩
  ihave H6m := (Entails.of_eq (heldQ c fullShare.right.right c (k0_off1_eq c) (k0_off1_inb c) (Gq fw)).symm) $$ H6m
  ihave H7m := (Entails.of_eq (heldO c fullShare.right.right c (k0_off2_eq c) (k0_off2_inb c) (Go fo)).symm) $$ H7m
  iapply (step_send (Gq fw) (Go fo) K c 0 4 (rgt c) _ (dev3 c) (vQ (k0_off3 c) (k0_off3_inb c)) (qSlot c) ((viewQ _ _ _).trans (rectQ _ (k0_off3_eq c) _)) (Gq fw)
    fullShare.left rfl (by show qs _ _ (qSlot (lft (rgt c))) _ = _; rw [lft_rgt]) rfl rfl _) $$ [$HI $H6a $H6R $HO $Ht0 $Hr0 $Ht4 $HR4]
  iintro ⟨Hc0, HO⟩
  sl_exec_parts
  iapply (step_send (Gq fw) (Go fo) K c 8 12 (rgt c) _ (dev4 c) (vO (k0_off4 c) (k0_off4_inb c)) (oSlot c) ((viewO _ _ _).trans (rectO _ (k0_off4_eq c) _)) (Go fo)
    fullShare.left rfl (by show os _ _ (oSlot (lft (rgt c))) _ = _; rw [lft_rgt]) rfl rfl _) $$ [$HI $H7a $H7R $HO $Ht8 $Hr8 $Ht12 $HR12]
  iintro ⟨Hc8, HO⟩
  sl_exec_parts
  iapply (step_send (Gq fw) (Go fo) K c 1 5 (lft c) _ (dev5 c) (vQ (k0_off3 c) (k0_off3_inb c)) (qSlot c) ((viewQ _ _ _).trans (rectQ _ (k0_off3_eq c) _)) (Gq fw)
    fullShare.right.left rfl (by show qs _ _ (qSlot (rgt (lft c))) _ = _; rw [rgt_lft]) rfl rfl _) $$ [$HI $H6b $H6L $HO $Ht1 $Hr1 $Ht5 $HL5]
  iintro ⟨Hc1, HO⟩
  sl_exec_parts
  iapply (step_send (Gq fw) (Go fo) K c 9 13 (lft c) _ (dev6 c) (vO (k0_off4 c) (k0_off4_inb c)) (oSlot c) ((viewO _ _ _).trans (rectO _ (k0_off4_eq c) _)) (Go fo)
    fullShare.right.left rfl (by show os _ _ (oSlot (rgt (lft c))) _ = _; rw [rgt_lft]) rfl rfl _) $$ [$HI $H7b $H7L $HO $Ht9 $Hr9 $Ht13 $HL13]
  iintro ⟨Hc9, HO⟩
  sl_exec_parts
  iapply (step_wait_at (Gq fw) (Go fo) K c 0 (vQ (k0_off3 c) (k0_off3_inb c)) rfl (owed2 c) (low_hop c 0 (by decide))) $$ [$HI $Hlev $Hc0 $HO $Ha0]
  iintro ⟨HO, Ha0, Hp0⟩
  sl_exec_parts
  iapply (step_wait_at (Gq fw) (Go fo) K c 4 (vQ (k0_off3 c) (k0_off3_inb c)) rfl (owed2 c) (low_hop c 4 (by decide))) $$ [$HI $Hlev $Hc4 $HO $Ha4]
  iintro ⟨HO, Ha4, Hp4⟩
  sl_exec_parts
  iapply (step_wait_at (Gq fw) (Go fo) K c 8 (vO (k0_off4 c) (k0_off4_inb c)) rfl (owed2 c) (low_hop c 8 (by decide))) $$ [$HI $Hlev $Hc8 $HO $Ha8]
  iintro ⟨HO, Ha8, Hp8⟩
  sl_exec_parts
  iapply (step_wait_at (Gq fw) (Go fo) K c 12 (vO (k0_off4 c) (k0_off4_inb c)) rfl (owed2 c) (low_hop c 12 (by decide))) $$ [$HI $Hlev $Hc12 $HO $Ha12]
  iintro ⟨HO, Ha12, Hp12⟩
  sl_exec_parts
  iapply (step_wait_at (Gq fw) (Go fo) K c 1 (vQ (k0_off3 c) (k0_off3_inb c)) rfl (owed2 c) (low_hop c 1 (by decide))) $$ [$HI $Hlev $Hc1 $HO $Ha1]
  iintro ⟨HO, Ha1, Hp1⟩
  sl_exec_parts
  iapply (step_wait_at (Gq fw) (Go fo) K c 5 (vQ (k0_off3 c) (k0_off3_inb c)) rfl (owed2 c) (low_hop c 5 (by decide))) $$ [$HI $Hlev $Hc5 $HO $Ha5]
  iintro ⟨HO, Ha5, Hp5⟩
  sl_exec_parts
  iapply (step_wait_at (Gq fw) (Go fo) K c 9 (vO (k0_off4 c) (k0_off4_inb c)) rfl (owed2 c) (low_hop c 9 (by decide))) $$ [$HI $Hlev $Hc9 $HO $Ha9]
  iintro ⟨HO, Ha9, Hp9⟩
  sl_exec_parts
  iapply (step_wait_at (Gq fw) (Go fo) K c 13 (vO (k0_off4 c) (k0_off4_inb c)) rfl (owed2 c) (low_hop c 13 (by decide))) $$ [$HI $Hlev $Hc13 $HO $Ha13]
  iintro ⟨HO, Ha13, Hp13⟩
  sl_exec_parts
  -- the neighbours' slots: half of each goes on, and both are read
  ihave H6m := (Entails.of_eq (aside_eq _).symm) $$ H6m
  ihave H6l := (Entails.of_eq (show pay (Gq fw) (Go fo) c 4 = qs c fullShare (qSlot (lft c)) (Gq fw) from rfl)) $$ Hp4
  ihave H6l := (halves fullShare _).1 $$ H6l
  icases H6l with ⟨H6lx, H6l⟩
  ihave H6lx := (qs_half c fullShare.left (lft c) (Gq fw)).1 $$ H6lx
  icases H6lx with ⟨H6lt, H6lb⟩
  ihave H6lb := (Entails.of_eq (aside_eq _).symm) $$ H6lb
  ihave H6l := (Entails.of_eq (heldQ c fullShare.right (lft c) (off := k0_off17 c 3#32) (k0_off17_lft c) (k0_off17_inb c 2) (Gq fw)).symm) $$ H6l
  ihave H7m := (Entails.of_eq (aside_eq _).symm) $$ H7m
  ihave H7l := (Entails.of_eq (show pay (Gq fw) (Go fo) c 12 = os c fullShare (oSlot (lft c)) (Go fo) from rfl)) $$ Hp12
  ihave H7l := (halves fullShare _).1 $$ H7l
  icases H7l with ⟨H7lx, H7l⟩
  ihave H7lx := (os_half c fullShare.left (lft c) (Go fo)).1 $$ H7lx
  icases H7lx with ⟨H7lt, H7lb⟩
  ihave H7lb := (Entails.of_eq (aside_eq _).symm) $$ H7lb
  ihave H7l := (Entails.of_eq (heldO c fullShare.right (lft c) (off := k0_off18 c 3#32) (k0_off18_lft c) (k0_off18_inb c 2) (Go fo)).symm) $$ H7l
  ihave H6r := (Entails.of_eq (show pay (Gq fw) (Go fo) c 5 = qs c fullShare (qSlot (rgt c)) (Gq fw) from rfl)) $$ Hp5
  ihave H6r := (halves fullShare _).1 $$ H6r
  icases H6r with ⟨H6rx, H6r⟩
  ihave H6rx := (qs_half c fullShare.left (rgt c) (Gq fw)).1 $$ H6rx
  icases H6rx with ⟨H6rt, H6rb⟩
  ihave H6rt := (Entails.of_eq (aside_eq _).symm) $$ H6rt
  ihave H6r := (Entails.of_eq (heldQ c fullShare.right (rgt c) (off := k0_off17 c 1#32) (k0_off17_rgt c) (k0_off17_inb c 0) (Gq fw)).symm) $$ H6r
  ihave H7r := (Entails.of_eq (show pay (Gq fw) (Go fo) c 13 = os c fullShare (oSlot (rgt c)) (Go fo) from rfl)) $$ Hp13
  ihave H7r := (halves fullShare _).1 $$ H7r
  icases H7r with ⟨H7rx, H7r⟩
  ihave H7rx := (os_half c fullShare.left (rgt c) (Go fo)).1 $$ H7rx
  icases H7rx with ⟨H7rt, H7rb⟩
  ihave H7rt := (Entails.of_eq (aside_eq _).symm) $$ H7rt
  ihave H7r := (Entails.of_eq (heldO c fullShare.right (rgt c) (off := k0_off18 c 1#32) (k0_off18_rgt c) (k0_off18_inb c 0) (Go fo)).symm) $$ H7r
  iapply (step_send (Gq fw) (Go fo) K c 2 6 (rgt c) _ (dev7 c) (vQh (k0_off13 c) (k0_off13_inb c)) (qTop (lft c)) ((viewQ _ _ _).trans (rectQT _ (k0_off13_eq c) _)) (Gq fw)
    fullShare.left rfl (by show qs _ _ (qTop (opp (rgt c))) _ = _; rw [opp_rgt]) rfl rfl _) $$ [$HI $H6lt $H6RT $HO $Ht2 $Hr2 $Ht6 $HR6]
  iintro ⟨Hc2, HO⟩
  sl_exec_parts
  iapply (step_send (Gq fw) (Go fo) K c 10 14 (rgt c) _ (dev8 c) (vOh (k0_off14 c) (k0_off14_inb c)) (oTop (lft c)) ((viewO _ _ _).trans (rectOT _ (k0_off14_eq c) _)) (Go fo)
    fullShare.left rfl (by show os _ _ (oTop (opp (rgt c))) _ = _; rw [opp_rgt]) rfl rfl _) $$ [$HI $H7lt $H7RT $HO $Ht10 $Hr10 $Ht14 $HR14]
  iintro ⟨Hc10, HO⟩
  sl_exec_parts
  iapply (step_send (Gq fw) (Go fo) K c 3 7 (lft c) _ (dev9 c) (vQh (k0_off15 c) (k0_off15_inb c)) (qBot (rgt c)) ((viewQ _ _ _).trans (rectQB _ (k0_off15_eq c) _)) (Gq fw)
    fullShare.left rfl (by show qs _ _ (qBot (opp (lft c))) _ = _; rw [opp_lft]) rfl rfl _) $$ [$HI $H6rb $H6LB $HO $Ht3 $Hr3 $Ht7 $HL7]
  iintro ⟨Hc3, HO⟩
  sl_exec_parts
  iapply (step_send (Gq fw) (Go fo) K c 11 15 (lft c) _ (dev10 c) (vOh (k0_off16 c) (k0_off16_inb c)) (oBot (rgt c)) ((viewO _ _ _).trans (rectOB _ (k0_off16_eq c) _)) (Go fo)
    fullShare.left rfl (by show os _ _ (oBot (opp (lft c))) _ = _; rw [opp_lft]) rfl rfl _) $$ [$HI $H7rb $H7LB $HO $Ht11 $Hr11 $Ht15 $HL15]
  iintro ⟨Hc11, HO⟩
  sl_exec_parts
  ihave H6l := (Entails.of_eq (aside_eq _).symm) $$ H6l
  ihave H7l := (Entails.of_eq (aside_eq _).symm) $$ H7l
  sl_exec_parts
  iapply (step_wait_at (Gq fw) (Go fo) K c 2 (vQh (k0_off13 c) (k0_off13_inb c)) rfl [] (low_nil _)) $$ [$HI $Hlev $Hc2 $HO $Ha2]
  iintro ⟨HO, Ha2, Hp2⟩
  sl_exec_parts
  iapply (step_wait_at (Gq fw) (Go fo) K c 6 (vQh (k0_off13 c) (k0_off13_inb c)) rfl [] (low_nil _)) $$ [$HI $Hlev $Hc6 $HO $Ha6]
  iintro ⟨HO, Ha6, Hp6⟩
  sl_exec_parts
  iapply (step_wait_at (Gq fw) (Go fo) K c 10 (vOh (k0_off14 c) (k0_off14_inb c)) rfl [] (low_nil _)) $$ [$HI $Hlev $Hc10 $HO $Ha10]
  iintro ⟨HO, Ha10, Hp10⟩
  sl_exec_parts
  iapply (step_wait_at (Gq fw) (Go fo) K c 14 (vOh (k0_off14 c) (k0_off14_inb c)) rfl [] (low_nil _)) $$ [$HI $Hlev $Hc14 $HO $Ha14]
  iintro ⟨HO, Ha14, Hp14⟩
  sl_exec_parts
  iapply (step_wait_at (Gq fw) (Go fo) K c 3 (vQh (k0_off15 c) (k0_off15_inb c)) rfl [] (low_nil _)) $$ [$HI $Hlev $Hc3 $HO $Ha3]
  iintro ⟨HO, Ha3, Hp3⟩
  sl_exec_parts
  iapply (step_wait_at (Gq fw) (Go fo) K c 7 (vQh (k0_off15 c) (k0_off15_inb c)) rfl [] (low_nil _)) $$ [$HI $Hlev $Hc7 $HO $Ha7]
  iintro ⟨HO, Ha7, Hp7⟩
  sl_exec_parts
  iapply (step_wait_at (Gq fw) (Go fo) K c 11 (vOh (k0_off16 c) (k0_off16_inb c)) rfl [] (low_nil _)) $$ [$HI $Hlev $Hc11 $HO $Ha11]
  iintro ⟨HO, Ha11, Hp11⟩
  sl_exec_parts
  iapply (step_wait_at (Gq fw) (Go fo) K c 15 (vOh (k0_off16 c) (k0_off16_inb c)) rfl [] (low_nil _)) $$ [$HI $Hlev $Hc15 $HO $Ha15]
  iintro ⟨HO, Ha15, Hp15⟩
  ihave H6r := (Entails.of_eq (aside_eq _).symm) $$ H6r
  ihave H7r := (Entails.of_eq (aside_eq _).symm) $$ H7r
  -- the opposite device's slots, from their two halves
  ihave H6ot := (Entails.of_eq (show pay (Gq fw) (Go fo) c 6 = qs c fullShare (qTop (opp c)) (Gq fw) from rfl)) $$ Hp6
  ihave H6ob := (Entails.of_eq (show pay (Gq fw) (Go fo) c 7 = qs c fullShare (qBot (opp c)) (Gq fw) from rfl)) $$ Hp7
  ihave H6o := (qs_half c fullShare (opp c) (Gq fw)).2 $$ [H6ot H6ob]
  · isplitl [H6ot]; · iexact H6ot
    iexact H6ob
  ihave H6o := (Entails.of_eq (heldQ c fullShare (opp c) (off := k0_off17 c 2#32) (k0_off17_opp c) (k0_off17_inb c 1) (Gq fw)).symm) $$ H6o
  ihave H7ot := (Entails.of_eq (show pay (Gq fw) (Go fo) c 14 = os c fullShare (oTop (opp c)) (Go fo) from rfl)) $$ Hp14
  ihave H7ob := (Entails.of_eq (show pay (Gq fw) (Go fo) c 15 = os c fullShare (oBot (opp c)) (Go fo) from rfl)) $$ Hp15
  ihave H7o := (os_half c fullShare (opp c) (Go fo)).2 $$ [H7ot H7ob]
  · isplitl [H7ot]; · iexact H7ot
    iexact H7ob
  ihave H7o := (Entails.of_eq (heldO c fullShare (opp c) (off := k0_off18 c 2#32) (k0_off18_opp c) (k0_off18_inb c 1) (Go fo)).symm) $$ H7o
  sl_exec_parts
  rw [wp_ret]
  imod (close_all (Gq fw) (Go fo) K c) $$ [$HI $HatB $Ha0 $Ha1 $Ha2 $Ha3 $Ha4 $Ha5 $Ha6 $Ha7 $Ha8 $Ha9 $Ha10 $Ha11 $Ha12 $Ha13 $Ha14 $Ha15] with Hsem
  imodintro
  unfold bodyPost
  isplitl [Hsem]; · iexact Hsem
  isplitl [H0]; · iexact H0
  isplitl [H1]; · iexact H1
  isplitl [H2]; · iexact H2
  isplitl [H3]; · iexact H3
  isplitl [H4]; · iexact H4
  isplitl [H5]; · iexact H5
  isplitl [H6m Hp0 Hp1 H6l Hp2 H6lb H6r H6rt Hp3 H6o]
  · iexists (Gq fw)
    iapply (joinQ (Gq fw) (Go fo) c (k0_off1_eq c) (k0_off17_lft c) (k0_off17_rgt c) (k0_off17_opp c) (k0_off1_inb c) (k0_off17_inb c 2) (k0_off17_inb c 0)
      (k0_off17_inb c 1))
    iframe H6m Hp0 Hp1 H6l Hp2 H6lb H6r H6rt Hp3 H6o
  isplitl [H7m Hp8 Hp9 H7l Hp10 H7lb H7r H7rt Hp11 H7o]
  · iexists (Go fo)
    iapply (joinO (Gq fw) (Go fo) c (k0_off2_eq c) (k0_off18_lft c) (k0_off18_rgt c) (k0_off18_opp c) (k0_off2_inb c) (k0_off18_inb c 2) (k0_off18_inb c 0)
      (k0_off18_inb c 1))
    iframe H7m Hp8 Hp9 H7l Hp10 H7lb H7r H7rt Hp11 H7o
  isplitl [H8]; · iexists _; iexact H8
  isplitl [H9]; · iexists _; iexact H9
  iexact HO

end Body

end Cert.KernelIdeal.Own
-- ==== Proof.Ghost.lean ====
module

public import proofs.«01_k».proof.Proof.Parts

/-! What the launch makes: every cell's invariant, the transfer cells not yet open, and for each device its positions, the
tokens of what it pays and the credit of what it waits for. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat Cfg BodyObligation cellOf Seg HostSeg RegionSeg)
open Cert.KernelIdeal Cert.KernelIdeal.Gen

variable {F : FTy → Type} [FloatOps F]

local notation "𝕄" => MT nD τ sig Unit (Elt F) ℕ UU ℕ

section Ghost

variable (G : cc0_scratch0.ty.Contents (Elt F)) (H : cc0_scratch1.ty.Contents (Elt F))

/-- What device `c` has of the protocol before its transfer cells are opened. -/
def dormant (K : GSem nD τ sig → ℕ) (c : Dev nD) : sProp 𝕄 :=
  iprop(invs G H K ∗ reached ER (barCell (lft c)) 0 ∗ reached ER (barCell (rgt c)) 0
    ∗ atPos ER (barCell c) 0 ∅ 0 ∗ dutyTok ER (barCell (lft c)) 0 0 ∗ dutyTok ER (barCell (rgt c)) 0 1 ∗ cred (tallyAt (barCell c) () 2)
    ∗ bigSep Finset.univ (fun k : Fin 16 => openTok ER (dcell c k))
    ∗ bigSep Finset.univ (fun k : Fin 16 => dutyTok ER (dcell (who k c) k) 0 0)
    ∗ bigSep Finset.univ (fun k : Fin 16 => credR (F := F) c k))

/-- The same with the transfer cells open: what the body starts from but for what the device owes. -/
def awake (K : GSem nD τ sig → ℕ) (c : Dev nD) : sProp 𝕄 :=
  iprop(invs G H K ∗ levAts L lv ∗ reached ER (barCell (lft c)) 0 ∗ reached ER (barCell (rgt c)) 0
    ∗ atPos ER (barCell c) 0 ∅ 0 ∗ dutyTok ER (barCell (lft c)) 0 0 ∗ dutyTok ER (barCell (rgt c)) 0 1 ∗ cred (tallyAt (barCell c) () 2)
    ∗ bigSep Finset.univ (fun k : Fin 16 => reached ER (dcell c k) 0)
    ∗ bigSep Finset.univ (fun k : Fin 16 => atPos ER (dcell c k) 0 ∅ 0)
    ∗ bigSep Finset.univ (fun k : Fin 16 => dutyTok ER (dcell (who k c) k) 0 0)
    ∗ bigSep Finset.univ (fun k : Fin 16 => credR (F := F) c k))

theorem opened_intro (K : GSem nD τ sig → ℕ) (c : Dev nD) : iprop(awake G H K c ∗ owing c (owedL c)) ⊢ opened G H K c := by
  unfold awake opened
  iintro ⟨⟨A, B, C, D, E, I, J, M, N, O, P, Q⟩, R⟩
  iframe A B C D E I J M N O P Q R

/-- Opening the transfer cells. -/
theorem open_all (K : GSem nD τ sig → ℕ) (c : Dev nD) :
    iprop(dormant G H K c ∗ bigSep Finset.univ (fun k : Fin 16 => semVal (dcell c k) 0) ∗ levAts L lv) ⊢ (|={Set.univ}=> awake G H K c : sProp 𝕄) := by
  have h1 : ∀ k ∈ (Finset.univ : Finset (Fin 16)), iprop(invs G H K ∗ (openTok ER (dcell c k) ∗ semVal (dcell c k) 0))
      ⊢ (|={Set.univ}=> (reached ER (dcell c k) 0 ∗ atPos ER (dcell c k) 0 ∅ 0) : sProp 𝕄) := fun k _ => by
    iintro ⟨#HI, Ho, Hs⟩
    ihave Hi := (invs_dma G H K c k) $$ HI
    imod (Rounds.cell_open ER (Rd G H) (g := dcell c k) (Set.mem_univ (K (dcell c k)))) $$ [Hi Ho Hs] with ⟨Ha, Hr⟩
    · isplitl [Hi]; · iexact Hi
      isplitl [Ho] <;> iassumption
    imodintro
    isplitl [Hr] <;> iassumption
  have h2 : iprop(invs G H K ∗ bigSep Finset.univ (fun k : Fin 16 => iprop(openTok ER (dcell c k) ∗ semVal (dcell c k) 0)))
      ⊢ (|={Set.univ}=> bigSep Finset.univ (fun k : Fin 16 => iprop(reached ER (dcell c k) 0 ∗ atPos ER (dcell c k) 0 ∅ 0)) : sProp 𝕄) :=
    (bigSep_with_persistent (S := Finset.univ) h1).trans (bigSep_fupd _ _)
  unfold dormant awake
  iintro ⟨⟨#A, C, D, E, I, J, M, N, P, Q⟩, S, B⟩
  imod h2 $$ [N S] with HH
  · isplitr; · iexact A
    ihave NS := (Entails.of_eq (bigSep_sep' Finset.univ (fun k : Fin 16 => (openTok ER (dcell c k) : sProp 𝕄)) fun k => semVal (dcell c k) 0).symm) $$ [N S]
    · isplitl [N] <;> iassumption
    iexact NS
  ihave HH := (Entails.of_eq (bigSep_sep' Finset.univ (fun k : Fin 16 => (reached ER (dcell c k) 0 : sProp 𝕄)) fun k => atPos ER (dcell c k) 0 ∅ 0)) $$ HH
  icases HH with ⟨X, Y⟩
  imodintro
  iframe A B C D E I J M X Y P Q

/-! ### The launch element -/

theorem reg_ne_dma (s : Sem sig) (d : DmaSem sig) : (SemLoc.reg s : SemLoc sig) ≠ SemLoc.dma d := nofun
def barEmb : Dev nD ↪ GSem nD τ sig := ⟨fun c => barCell c, fun _ _ h => congrArg (fun g : GSem nD τ sig => g.1.1) h⟩
def dmaEmb : Dev nD × Fin 16 ↪ GSem nD τ sig :=
  ⟨fun p => dcell p.1 p.2, fun _ _ h => Prod.ext (congrArg (fun g : GSem nD τ sig => g.1.1) h) (dk_inj (SemLoc.dma.inj (congrArg Prod.snd h)))⟩
def barTokEmb : Dev nD × Fin 2 ↪ GSem nD τ sig × ℕ × Fin 2 :=
  ⟨fun p => (barCell p.1, 0, p.2), fun _ _ h =>
    Prod.ext (congrArg (fun t : GSem nD τ sig × ℕ × Fin 2 => t.1.1.1) h) (congrArg (fun t : GSem nD τ sig × ℕ × Fin 2 => t.2.2) h)⟩
def dmaTokEmb : Dev nD × Fin 16 ↪ GSem nD τ sig × ℕ × Fin 2 :=
  ⟨fun p => (dcell p.1 p.2, 0, 0), fun _ _ h => dmaEmb.injective (congrArg Prod.fst h)⟩

abbrev barCells : Finset (GSem nD τ sig) := Finset.univ.map barEmb
abbrev dmaCells : Finset (GSem nD τ sig) := Finset.univ.map dmaEmb
abbrev allToks : Finset (GSem nD τ sig × ℕ × Fin 2) := Finset.univ.map barTokEmb ∪ Finset.univ.map dmaTokEmb

theorem cells_disjoint : Disjoint barCells dmaCells := by
  rw [Finset.disjoint_left]
  intro g h₁ h₂
  obtain ⟨c, -, rfl⟩ := Finset.mem_map.mp h₁
  obtain ⟨p, -, h⟩ := Finset.mem_map.mp h₂
  exact reg_ne_dma _ _ (congrArg Prod.snd h).symm
theorem toks_disjoint : Disjoint (Finset.univ.map barTokEmb) (Finset.univ.map dmaTokEmb) := by
  rw [Finset.disjoint_left]
  intro g h₁ h₂
  obtain ⟨c, -, rfl⟩ := Finset.mem_map.mp h₁
  obtain ⟨p, -, h⟩ := Finset.mem_map.mp h₂
  exact reg_ne_dma _ _ (congrArg (fun t : GSem nD τ sig × ℕ × Fin 2 => t.1.2) h).symm

/-- A resource held by device 0 alone, for the launch to deal out. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
    (fun c hc => by unfold parked; rw [if_neg (Finset.ne_of_mem_erase hc)]; rfl), BI.bigSep_emp_const]
  unfold parked
  rw [if_pos rfl]
  exact BI.equiv_iff.mp sep_emp

/-- All invariants and the open barriers. -/
theorem invs_intro (κ : GSem nD τ sig → ℕ) :
    (bigSep (barCells ∪ dmaCells) fun g => (cellInv ER (Rd G H) (κ g) g : sProp 𝕄)) ⊢ invs G H κ := by
  rw [BI.bigSep_union cells_disjoint, bigSep_map, bigSep_map]
  unfold invs
  exact Entails.refl _

/-- The tokens, each with the device that pays it. -/
theorem toks_dealt : bigSep allToks (fun x => (dutyTok ER x.1 x.2.1 x.2.2 : sProp 𝕄))
    ⊢ bigSep Finset.univ fun c : Dev nD => iprop((dutyTok ER (barCell (lft c)) 0 0 ∗ dutyTok ER (barCell (rgt c)) 0 1)
      ∗ bigSep Finset.univ (fun k : Fin 16 => dutyTok ER (dcell (who k c) k) 0 0)) := by
  let e : Dev nD × Fin 16 ≃ Dev nD × Fin 16 :=
    ⟨fun p => (who p.2 p.1, p.2), fun p => ((who p.2).symm p.1, p.2), fun p => by simp, fun p => by simp⟩
  have hb : bigSep (Finset.univ.map barTokEmb) (fun x => (dutyTok ER x.1 x.2.1 x.2.2 : sProp 𝕄))
      = bigSep Finset.univ fun c : Dev nD => iprop(dutyTok ER (barCell (lft c)) 0 0 ∗ dutyTok ER (barCell (rgt c)) 0 1) := by
    rw [bigSep_map, bigSep_univ_prod]
    refine (bigSep_congr (s := Finset.univ) (Ψ := fun c : Dev nD => iprop(dutyTok ER (barCell c) 0 0 ∗ dutyTok ER (barCell c) 0 1))
      (fun c _ => BI.bigSep_fin_two (fun k : Fin 2 => (dutyTok ER (barCell c) 0 k : sProp 𝕄)))).trans ?_
    rw [bigSep_sep', bigSep_univ_equiv ringL (fun c : Dev nD => (dutyTok ER (barCell c) 0 0 : sProp 𝕄)),
      bigSep_univ_equiv ringR (fun c : Dev nD => (dutyTok ER (barCell c) 0 1 : sProp 𝕄)), ← bigSep_sep']
    rfl
  have hd : bigSep (Finset.univ.map dmaTokEmb) (fun x => (dutyTok ER x.1 x.2.1 x.2.2 : sProp 𝕄))
      = bigSep Finset.univ fun c : Dev nD => bigSep Finset.univ (fun k : Fin 16 => dutyTok ER (dcell (who k c) k) 0 0) := by
    rw [bigSep_map, bigSep_univ_equiv e, bigSep_univ_prod]
    rfl
  rw [BI.bigSep_union toks_disjoint, hb, hd]
  exact Entails.of_eq (bigSep_sep' ..).symm

/-! ### The launch credit -/

theorem Osum_apply : ∀ (l : List (GSem nD τ sig × ℕ)) (g : GSem nD τ sig), Osum l g () = (l.map fun p => if g = p.1 then p.2 else 0).sum
  | [], g => rfl
  | p :: l, g => by
    show Osum l g () + tallyAt p.1 () p.2 g () = _
    rw [Osum_apply l g, tallyAt_apply, List.map_cons, List.sum_cons, Nat.add_comm]
    simp only [and_true]

theorem bar_ne (c d : Dev nD) (k : Fin 16) : barCell c ≠ dcell d k := fun h => reg_ne_dma _ _ (congrArg Prod.snd h)
theorem bar_iff (c d : Dev nD) : barCell c = barCell d ↔ c = d := ⟨fun h => congrArg (fun g : GSem nD τ sig => g.1.1) h, fun h => h ▸ rfl⟩
theorem dcell_iff (c d : Dev nD) (k j : Fin 16) : dcell c k = dcell d j ↔ c = d ∧ k = j :=
  ⟨fun h => Prod.ext_iff.mp (dmaEmb.injective (a₁ := (c, k)) (a₂ := (d, j)) h), fun h => by rw [h.1, h.2]⟩

theorem sum_rgt (c : Dev nD) (n : ℕ) : (∑ d : Dev nD, if c = rgt d then n else 0) = n := by
  rw [Finset.sum_congr rfl fun d _ => if_congr (show c = rgt d ↔ d = lft c from
    ⟨fun h => by rw [h, lft_rgt], fun h => by rw [h, rgt_lft]⟩) rfl rfl, Finset.sum_ite_eq' Finset.univ (lft c) fun _ => n, if_pos (Finset.mem_univ _)]
theorem sum_lft (c : Dev nD) (n : ℕ) : (∑ d : Dev nD, if c = lft d then n else 0) = n := by
  rw [Finset.sum_congr rfl fun d _ => if_congr (show c = lft d ↔ d = rgt c from
    ⟨fun h => by rw [h, rgt_lft], fun h => by rw [h, lft_rgt]⟩) rfl rfl, Finset.sum_ite_eq' Finset.univ (rgt c) fun _ => n, if_pos (Finset.mem_univ _)]

theorem launch_bar (c : Dev nD) : tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same,
    Finset.sum_congr rfl (g := fun d : Dev nD => (if c = lft d then 1 else 0) + (if c = rgt d then 1 else 0)) fun d _ => by
      rw [Osum_apply]
      simp [bar_ne, bar_iff],
    Finset.sum_add_distrib, sum_lft, sum_rgt]

/-- The receive cells among the transfer cells. -/
theorem launch_dma (c : Dev nD) (k : Fin 16) (hk : ¬ k.val / 4 % 2 = 0) :
    tallyOn (dcell c k) (launchCredit (Pipeline.owing O₀) 0 (dcell c k)) = (tallyAt (dcell c k) () (NN k) : CellTallies nD τ sig Unit) := by
  unfold tallyAt
  refine congrArg _ (Finsupp.ext fun u => ?_)
  cases u
  have hs (d : Dev nD) : Osum (owedL d) (dcell c k) () = (if c = rgt d then (if k.val % 2 = 0 then NN k else 0) else 0) + (if c = lft d then (if k.val % 2 = 0 then 0 else NN k) else 0) := by
    have hb : ∀ e, dcell c k ≠ barCell e := fun e h => bar_ne e c k h.symm
    rw [Osum_apply]
    fin_cases k <;> first | exact absurd (by decide) hk | simp [hb, dk_inj.eq_iff]
  rw [Pipeline.launchCredit_owing, Finsupp.single_eq_same, Finset.sum_congr rfl fun d _ => hs d, Finset.sum_add_distrib, sum_lft, sum_rgt]
  split <;> simp

theorem creds (c : Dev nD) :
    (Pipeline.launchCred O₀ c : sProp 𝕄) ⊢ iprop(cred (tallyAt (barCell c) () 2) ∗ bigSep Finset.univ (fun k : Fin 16 => credR (F := F) c k)) := by
  unfold Pipeline.launchCred
  rw [bigSep_univ_at _ (SemLoc.reg barS), launch_bar]
  refine sep_mono_right ?_
  have hsub : Finset.univ.map ⟨fun k : Fin 16 => (SemLoc.dma (dk k) : SemLoc sig), fun a b h => dk_inj (SemLoc.dma.inj h)⟩ ⊆ Finset.univ.erase (SemLoc.reg barS) := by
    intro x hx
    obtain ⟨k, -, rfl⟩ := Finset.mem_map.mp hx
    exact Finset.mem_erase.mpr ⟨(reg_ne_dma _ _).symm, Finset.mem_univ _⟩
  refine (BI.bigSep_subset hsub).trans ?_
  rw [bigSep_map]
  refine bigSep_mono fun k _ => ?_
  unfold credR
  by_cases hk : k.val / 4 % 2 = 0
  · rw [if_pos hk]
    exact BI.sep_emp_intro.trans (BI.sep_and.trans BI.and_elimR)
  · rw [if_neg hk, ← launch_dma c k hk]
    exact Entails.refl _

end Ghost

end Cert.KernelIdeal.Own
-- ==== Proof.Launch.lean ====
module

public import proofs.«01_k».proof.Proof.Body
public import proofs.«01_k».proof.Proof.Ghost
public import Idealize.ShloMosaic.Lib.Pipeline.ValueKit.Geometry

/-! The run of the whole program: the region around the body, the launch, what every buffer holds at the end. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat Cfg BodyObligation cellOf Seg HostSeg RegionSeg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What the body meets and leaves -/

/-- Each window's array, as the region finds it and as it is staged. -/
def stg0 (c : Dev nD) : A0.view.ty.Contents (Elt F) := ((cfg0.win 0).blk t0_0).view.read (Elt F) (V1 m c main_arg0)
def stg1 (c : Dev nD) : A1.view.ty.Contents (Elt F) := ((cfg0.win 1).blk t0_0).view.read (Elt F) (V1 m c main_arg1)
def stg2 (c : Dev nD) : A2.view.ty.Contents (Elt F) := ((cfg0.win 2).blk t0_0).view.read (Elt F) (V1 m c main_v17)
def stg3 (c : Dev nD) : A3.view.ty.Contents (Elt F) := ((cfg0.win 3).blk t0_0).view.read (Elt F) (V1 m c main_v20)
def stg4 (c : Dev nD) : A4.view.ty.Contents (Elt F) := ((cfg0.win 4).blk t0_0).view.read (Elt F) (V1 m c main_arg4)
def stg5 (c : Dev nD) : A5.view.ty.Contents (Elt F) := ((cfg0.win 5).blk t0_0).view.read (Elt F) (V1 m c main_v21)
abbrev fW (c : Dev nD) : A1.view.ty.Contents (Elt F) := stg1 m c
abbrev fO (c : Dev nD) : A4.view.ty.Contents (Elt F) := stg4 m c

/-- The stores the result is left with. -/
abbrev stores (c : Dev nD) : List (View.Piece (Elt F) S2x256x512 .f32) := (body (fW m) (fO m) c (stg0 m c) (stg2 m c) (stg3 m c)).1

/-- The result's staged block, the stores put over any contents. -/
def outStg (c : Dev nD) : A5.view.ty.Contents (Elt F) := A5.view.writes (Elt F) (stg5 m c) (stores m c)

/-- The two newest stores, one for each half of the result. -/
theorem stores_eq (fw : Dev nD → A1.view.ty.Contents (Elt F)) (fo : Dev nD → A4.view.ty.Contents (Elt F)) (c : Dev nD)
    (f0 : A0.view.ty.Contents (Elt F)) (f2 : A2.view.ty.Contents (Elt F)) (f3 : A3.view.ty.Contents (Elt F)) :
    (body fw fo c f0 f2 f3).1
      = ⟨Rect.unit ![1, 0, 0] S1x256x512.size inb_S2x256x512_S1x256x512_1_0_0,
          k0_pay2 (body.sl.r_42 fo c) (body.sl.v1222 fw c f0 f2 f3) (body.sl.v1224 fw fo c f0 f2 f3)⟩
        :: ⟨Rect.unit ![0, 0, 0] S1x256x512.size inb_S2x256x512_S1x256x512_0_0_0,
          k0_pay94 (body.sl.r_42 fo c) (body.sl.v1107 fw c f0 f2 f3) (body.sl.v1109 fw fo c f0 f2 f3)⟩
        :: body.sl.H5_6 fw fo c f0 f2 f3 := rfl

theorem mem_half0 (i : S2x256x512.Idx) : i ∈ (Rect.unit (s := S2x256x512) ![0, 0, 0] S1x256x512.size inb_S2x256x512_S1x256x512_0_0_0).set ↔ (i 0).val = 0 := by
  rw [Rect.mem_set_unit, Fin.forall_fin_succ, Fin.forall_fin_two]
  have h1 : (i 1).val < 256 := (i 1).isLt
  have h2 : (i 2).val < 512 := (i 2).isLt
  show ((0 ≤ (i 0).val ∧ (i 0).val < 0 + 1) ∧ (0 ≤ (i 1).val ∧ (i 1).val < 0 + 256) ∧ 0 ≤ (i 2).val ∧ (i 2).val < 0 + 512) ↔ _
  omega
theorem mem_half1 (i : S2x256x512.Idx) : i ∈ (Rect.unit (s := S2x256x512) ![1, 0, 0] S1x256x512.size inb_S2x256x512_S1x256x512_1_0_0).set ↔ (i 0).val = 1 := by
  rw [Rect.mem_set_unit, Fin.forall_fin_succ, Fin.forall_fin_two]
  have h1 : (i 1).val < 256 := (i 1).isLt
  have h2 : (i 2).val < 512 := (i 2).isLt
  show ((1 ≤ (i 0).val ∧ (i 0).val < 1 + 1) ∧ (0 ≤ (i 1).val ∧ (i 1).val < 0 + 256) ∧ 0 ≤ (i 2).val ∧ (i 2).val < 0 + 512) ↔ _
  omega

theorem stores_cover (c : Dev nD) (y : S2x256x512.Idx) : ∃ p ∈ stores m c, y ∈ p.1.set := by
  unfold stores
  rw [stores_eq]
  have h0 : (y 0).val < 2 := (y 0).isLt
  by_cases h : (y 0).val = 0
  · exact ⟨_, List.mem_cons_of_mem _ List.mem_cons_self, (mem_half0 y).mpr h⟩
  · exact ⟨_, List.mem_cons_self, (mem_half1 y).mpr (by omega)⟩

theorem writes_any (L : List (View.Piece (Elt F) S2x256x512 .f32)) (h : ∀ y, ∃ p ∈ L, y ∈ p.1.set) (f g : A5.view.ty.Contents (Elt F)) :
    A5.view.writes (Elt F) f L = A5.view.writes (Elt F) g L :=
  View.read_writes_of_cover A5.view f A5.view g L h
theorem stores_any (c : Dev nD) (f : A5.view.ty.Contents (Elt F)) : A5.view.writes (Elt F) f (stores m c) = outStg m c := by
  unfold outStg
  exact writes_any _ (stores_cover m c) _ _

/-! ## The region -/

def scr (c : Dev nD) : sProp 𝕄 :=
  iprop((∃ f, A6.view.loc (c : Thread nD τ) ↦{fullShare} f) ∗ (∃ f, A7.view.loc (c : Thread nD τ) ↦{fullShare} f)
    ∗ (∃ f, A8.view.loc (c : Thread nD τ) ↦{fullShare} f) ∗ (∃ f, A9.view.loc (c : Thread nD τ) ↦{fullShare} f))
theorem scopedRest_scr (c : Dev nD) :
    (Pipeline.scopedRest (Ix := Unit) (Name := ℕ) (U := UU) (Lvl := ℕ) (Val := Elt F) spec0 c : sProp 𝕄) = scr c := scopedRest0_eq c

abbrev osem (k : Fin 16) : SemLoc sig := .dma (dk k)
def Xk (c : Dev nD) : sProp 𝕄 := iprop(∃ K, awake (Gq (fW m)) (Go (fO m)) K c)
def Tk (c : Dev nD) : sProp 𝕄 := iprop(∃ K, dormant (Gq (fW m)) (Go (fO m)) K c)
def Yk (c : Dev nD) : sProp 𝕄 := semVal (barCell c) 0

/-- Before the point: the protocol open and all of its payments due. After it: all counters back at zero, nothing due. -/
def dat (c : Dev nD) : Dat τ (Elt F) Unit ℕ UU ℕ cfg0 c where
  A w := V1 m c (Proc.devRef .tc (Pipeline.arrRef spec0 w))
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => outStg m c
  Φ t := if t.val = 0 then iprop(scr c ∗ (∃ r, prngReg c r) ∗ Xk m c) else iprop(scr c ∗ (∃ r, prngReg c r) ∗ closedSems c)
  q _ := fullShare
  owed t := if t.val = 0 then O₀ c else 0

def pdats : (p : Fin 1) → (c : Dev nD) → Dat τ (Elt F) Unit ℕ UU ℕ (Pipeline.pin (pcfgs (F := F)) adm p) c
  | 0 => dat m

theorem Φ_first (c : Dev nD) : (dat m c).Φ t0_0.castSucc = iprop(scr c ∗ (∃ r, prngReg c r) ∗ Xk m c) := rfl
theorem Φ_next (c : Dev nD) : (dat m c).Φ t0_0.succ = iprop(scr c ∗ (∃ r, prngReg c r) ∗ closedSems c) := rfl
theorem Φ_zero (c : Dev nD) : (pdats m 0 c).Φ 0 = iprop(scr c ∗ (∃ r, prngReg c r) ∗ Xk m c) := rfl
theorem last_ne : ¬ (Fin.last cfg0.N).val = 0 := by
  rw [Fin.val_last, show cfg0.N = 1 from N_0]
  decide
theorem Φ_last (c : Dev nD) : (pdats m 0 c).Φ (Fin.last cfg0.N) = iprop(scr c ∗ (∃ r, prngReg c r) ∗ closedSems c) := by
  show (if (Fin.last cfg0.N).val = 0 then iprop(scr c ∗ (∃ r, prngReg c r) ∗ Xk m c) else iprop(scr c ∗ (∃ r, prngReg c r) ∗ closedSems c)) = _
  rw [if_neg last_ne]
theorem owed_first (c : Dev nD) : (dat m c).owed t0_0.castSucc = O₀ c := rfl
theorem owed_next (c : Dev nD) : (dat m c).owed t0_0.succ = 0 := rfl
theorem owed_zero (c : Dev nD) : (pdats m 0 c).owed 0 = O₀ c := rfl
theorem owed_last (c : Dev nD) : (pdats m 0 c).owed (Fin.last cfg0.N) = 0 := by
  show (if (Fin.last cfg0.N).val = 0 then O₀ c else 0) = 0
  rw [if_neg last_ne]

theorem owesAt_of (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h, show (dat m c).recorded t = Set.univ from rfl]
  iintro HO
  iexists W
  isplitr; · ipureintro; exact fun _ _ => Or.inl trivial
  iexact HO
theorem owesAt_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

theorem before_0 (c : Dev nD) (d) : (dat m c).before 0 t0_0 d = stg0 m c := by unfold Dat.before; rw [if_pos (by decide)]; rfl
theorem before_1 (c : Dev nD) (d) : (dat m c).before 1 t0_0 d = stg1 m c := by unfold Dat.before; rw [if_pos (by decide)]; rfl
theorem before_2 (c : Dev nD) (d) : (dat m c).before 2 t0_0 d = stg2 m c := by unfold Dat.before; rw [if_pos (by decide)]; rfl
theorem before_3 (c : Dev nD) (d) : (dat m c).before 3 t0_0 d = stg3 m c := by unfold Dat.before; rw [if_pos (by decide)]; rfl
theorem before_4 (c : Dev nD) (d) : (dat m c).before 4 t0_0 d = stg4 m c := by unfold Dat.before; rw [if_pos (by decide)]; rfl

/-- The body as the pipeline calls it. -/
abbrev prog : Prog (TpuEff nD τ sig (Elt F) Λ₀ .tc) PUnit :=
  cc0_body (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
theorem prog_eq : defs₀ (F := F) .tc cfg0.body (cfg0.bodyArgs t0_0 (cfg0.slots t0_0)) = prog := rfl

/-- The body's obligation: the body's run at the staged blocks. -/
theorem bodyAt (c : Dev nD) : BodyObligation (dat m c) defs₀ 𝒱₀ () Set.univ := fun t => by
  obtain rfl := fin_N0 t
  rw [bigSep_W0, bigSep_W0]
  simp only [owns_whole_eq]
  rw [Φ_first, Φ_next, prog_eq]
  unfold scr Xk
  iintro ⟨⟨⟨⟨%f6, H6⟩, ⟨%f7, H7⟩, ⟨%f8, H8⟩, ⟨%f9, H9⟩⟩, Hp, ⟨%K, Hk⟩⟩, HO, ⟨%d0, %f0, %hf0, H0⟩, ⟨%d1, %f1, %hf1, H1⟩, ⟨%d2, %f2, %hf2, H2⟩,
    ⟨%d3, %f3, %hf3, H3⟩, ⟨%d4, %f4, %hf4, H4⟩, ⟨%d5, %f5, -, H5⟩⟩
  rw [before_0] at hf0
  rw [before_1] at hf1
  rw [before_2] at hf2
  rw [before_3] at hf3
  rw [before_4] at hf4
  subst hf0 hf1 hf2 hf3 hf4
  ihave HO := (owesAt_out m c _ (O₀ c) (owed_first m c)) $$ HO
  icases HO with ⟨%Wd, HO⟩
  iapply (wp_wand_r frame (wpE defs₀ 𝒱₀ (c : Thread nD τ) none) Set.univ
    (Q := fun _ => bodyPost c (fW m c) (fO m c) (stg0 m c) (stg2 m c) (stg3 m c) f5 (stores m c)))
  isplitr [Hp]
  · iapply ((body (fW m) (fO m) c (stg0 m c) (stg2 m c) (stg3 m c)).2 K f5 f6 f7 f8 f9)
    isplitl [Hk HO]
    · iapply (opened_intro (Gq (fW m)) (Go (fO m)) K c)
      isplitl [Hk]; · iexact Hk
      unfold owing
      iexists Wd
      iexact HO
    iframe H0 H1 H2 H3 H4 H5 H6 H7 H8 H9
  iintro %_ Hpost
  unfold bodyPost owing
  rw [stores_any]
  icases Hpost with ⟨Hsem, H0, H1, H2, H3, H4, H5, H6, H7, H8, H9, ⟨%We, HO⟩⟩
  isplitl [Hsem Hp H6 H7 H8 H9]
  · isplitl [H6 H7 H8 H9]
    · isplitl [H6]; · iexact H6
      isplitl [H7]; · iexact H7
      isplitl [H8] <;> iassumption
    isplitl [Hp] <;> iassumption
  isplitl [HO]
  · iapply (owesAt_of m c t0_0.succ 0 (owed_next m c) We)
    iexact HO
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

theorem kitP : Pipeline.PLaunchFacts (nD := nD) (τ := τ) (pcfgs (F := F)) 0 where
  cellOf_inj a := by
    rw [Subsingleton.elim a adm]
    exact cellOf_inj
  win := winFacts0
  pre := Pipeline.PreFacts.none _
  block_pos := block_pos0
  arr_whole := arr_whole0
  stage_whole := stage_whole0

/-- What a device owes lies above the level of its own staging waits. -/
theorem cut (c : Dev nD) (t : Fin ((Pipeline.pin (pcfgs (F := F)) adm 0).N + 1)) (g : GSem nD τ sig) (u : Unit) (h : 0 < (pdats m 0 c).owed t g u) :
    u ∈ L g ∧ 0 < lv g u := by
  rw [show (pdats m 0 c).owed t = if t.val = 0 then O₀ c else 0 from rfl] at h
  split at h
  · obtain ⟨p, hp, rfl⟩ := Osum_pos _ _ _ h
    have hr : 0 < lvS (.reg barS) := by decide
    have hd : ∀ k : Fin 16, ¬ k.val / 4 % 2 = 0 → 0 < lvS (.dma (dk k)) := by decide
    have hk : ∀ p ∈ owedL c, p.1.1.2 = .tc ∧ 0 < lvS p.1.2 := by
      intro p hp
      simp only [List.mem_cons, List.not_mem_nil, or_false] at hp
      rcases hp with rfl | rfl | rfl | rfl | rfl | rfl | rfl | rfl | rfl | rfl <;> first | exact ⟨rfl, hr⟩ | exact ⟨rfl, hd _ (by decide)⟩
    refine ⟨?_, (hk p hp).2⟩
    unfold L
    rw [if_pos (hk p hp).1]
    exact Finset.mem_singleton_self _
  · exact absurd h (Nat.lt_irrefl 0)

/-- What the region leaves in the result. -/
def outs : Outs (F := F) := fun _ r c => if h : r = main_v21 then h ▸ (dat m c).arrAt 5 cfg0.N else m ((c : Thread nD τ).loc r)
theorem V2_out (c : Dev nD) : V2 m (outs m) c main_v21 = (dat m c).arrAt 5 cfg0.N := by
  unfold V2
  rw [Function.update_self]
  unfold outs
  rw [dif_pos rfl]

abbrev arrs : Finset (DevRef τ sig) := Pipeline.arrRefs (τ := τ) spec0
theorem arrs_sub : arrs ⊆ Pipeline.ucRefs τ sig := Pipeline.arrRefs_sub_ucRefs spec0 (by decide)
abbrev others : Finset (DevRef τ sig) := Pipeline.ucRefs τ sig \ arrs
theorem out_mem : (Proc.devRef .tc main_v21 : DevRef τ sig) ∈ arrs := by decide

theorem ownSems_eq (c : Dev nD) : (Pipeline.ownSems0 osem c : sProp 𝕄) = bigSep Finset.univ (fun k : Fin 16 => semVal (dcell c k) 0) := rfl

theorem opens (c : Dev nD) : iprop(Tk m c ∗ Pipeline.ownSems0 osem c ∗ levAts L lv) ⊢ (|={Set.univ}=> Xk m c : sProp 𝕄) := by
  rw [ownSems_eq]
  unfold Tk Xk
  iintro ⟨⟨%K, HT⟩, HS, HL⟩
  imod (open_all (Gq (fW m)) (Go (fO m)) K c) $$ [HT HS HL] with H
  · isplitl [HT]; · iexact HT
    isplitl [HS] <;> iassumption
  imodintro
  iexists K
  iexact H

theorem enters (c : Dev nD) : iprop(Pipeline.scopedRest (Pipeline.pin (pcfgs (F := F)) adm 0).spec c ∗ (∃ r, prngReg c r)
    ∗ StableHlo.held (c.tc : Thread nD τ) ∅ (V1 m c) ∗ Xk m c) ⊢ (pdats m 0 c).Φ 0 := by
  rw [Φ_zero]
  iintro ⟨Hs, Hp, -, HX⟩
  isplitl [Hs]; · iapply (Entails.of_eq (scopedRest_scr (F := F) c)) $$ Hs
  isplitl [Hp] <;> iassumption

theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk c) := by
  rw [show (pdats m 0 c).Φ (Fin.last (Pipeline.pin (pcfgs (F := F)) adm 0).N) = _ from Φ_last m c, ownSems_eq]
  unfold closedSems Yk StableHlo.held
  rw [BI.bigSep_empty]
  iintro ⟨Hs, Hp, Hb, Hd⟩
  isplitl [Hs]; · iapply (Entails.of_eq (scopedRest_scr (F := F) c).symm) $$ Hs
  isplitl [Hp]; · iexact Hp
  isplitr; · iempintro
  isplitl [Hd] <;> iassumption

theorem ends (c : Dev nD) (w : Fin 6) : (pdats m 0 c).arrAt w (Pipeline.pin (pcfgs (F := F)) adm 0).N
    = V2 m (outs m) c (Proc.devRef .tc (Pipeline.arrRef (Pipeline.pin (pcfgs (F := F)) adm 0).spec w)) := by
  have hin : ∀ w : Fin 6, (cfg0.win w).isOut = false → (dat m c).arrAt w cfg0.N = V1 m c (Proc.devRef .tc (Pipeline.arrRef spec0 w)) := fun w h =>
    (dat m c).arrAt_in w h cfg0.N
  fin_cases w
  · exact (hin 0 rfl).trans (V2_of m (outs m) c main_arg0 (by decide)).symm
  · exact (hin 1 rfl).trans (V2_of m (outs m) c main_arg1 (by decide)).symm
  · exact (hin 2 rfl).trans (V2_of m (outs m) c main_v17 (by decide)).symm
  · exact (hin 3 rfl).trans (V2_of m (outs m) c main_v20 (by decide)).symm
  · exact (hin 4 rfl).trans (V2_of m (outs m) c main_arg4 (by decide)).symm
  · exact (V2_out m c).symm

set_option backward.isDefEq.respectTransparency.types false in
def reg0 : RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kitP rfl (fun c => (bodyAt m c).loose)
    (fun _ => 0) O₀ (fun c => (owed_zero m c).trans (zero_add _).symm) (owed_last m) (fun _ => rfl) (fun c w => by fin_cases w <;> rfl)
    (V1 m) (V2 m (outs m)) (fun c b hb => by
      rw [Finset.sdiff_empty] at hb
      exact Function.update_of_ne (fun h => (Finset.mem_sdiff.mp hb).2 (by rw [h]; exact out_mem)) _ _)
    (Tk m) Yk (Xk m) Yk (opens m) (enters m) (leaves m)
    (fun c => by iintro H; imodintro; iexact H)
    (fun _ => 0)
    ⟨fun c w s => by rw [L_tc]; exact Finset.mem_singleton_self _, fun c w s => (by decide : ∀ (w : Fin 6) (s : Fin (spec0 w).nbuf), lvS (.dma ((spec0 w).sem s)) ≤ 0) w s, fun c t g u h => cut m c t g u h⟩
    (fun _ => iprop(emp))
    (fun c w => rfl) (ends m)

end Cert.KernelIdeal.Own
-- ==== Proof.Run.lean ====
module

public import proofs.«01_k».proof.Proof.Launch

/-! The whole program run from any memory with counters at zero. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat Cfg BodyObligation cellOf Seg HostSeg RegionSeg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## From the launch to the region and out of it -/

/-- What a device has beside its buffers before the region, and after it. -/
def E (j : Fin 2) (c : Dev nD) : sProp 𝕄 :=
  match j with
  | 0 => iprop(Tk m c ∗ (∃ r, prngReg c r) ∗ ∃ W, owes (c : Thread nD τ) (O₀ c) W)
  | 1 => iprop(Yk c ∗ ∃ W, owes (c : Thread nD τ) (0 : CellTallies nD τ sig Unit) W)
theorem E_0 (c : Dev nD) : E m 0 c = iprop(Tk m c ∗ (∃ r, prngReg c r) ∗ ∃ W, owes (c : Thread nD τ) (O₀ c) W) := rfl
theorem E_1 (c : Dev nD) : E m 1 c = iprop(Yk c ∗ ∃ W, owes (c : Thread nD τ) (0 : CellTallies nD τ sig Unit) W) := rfl

theorem enter (c : Dev nD) : iprop(StableHlo.held (c : Thread nD τ) (Pipeline.ucRefs τ sig) (V1 m c) ∗ E m 0 c) ⊢ (reg0 m).pre c := by
  show _ ⊢ iprop(StableHlo.held (c.tc : Thread nD τ) arrs (V1 m c) ∗ (∃ r, prngReg c r)
    ∗ (StableHlo.held (c.tc : Thread nD τ) others (V1 m c) ∗ emp) ∗ Tk m c ∗ ∃ Wd, owes (c : Thread nD τ) (0 + O₀ c) Wd)
  rw [E_0, StableHlo.held_sub_split (c.tc : Thread nD τ) arrs_sub (V1 m c), zero_add]
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem leave (c : Dev nD) : (reg0 m).post c ⊢ iprop(StableHlo.held (c : Thread nD τ) (Pipeline.ucRefs τ sig) (V2 m (outs m) c) ∗ E m 1 c) := by
  show iprop(StableHlo.held (c.tc : Thread nD τ) arrs (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢ _
  rw [E_1, StableHlo.held_sub_split (c.tc : Thread nD τ) arrs_sub (V2 m (outs m) c)]
  iintro ⟨Ha, -, ⟨Ho, -⟩, HY, HO⟩
  isplitl [Ha Ho]; · isplitl [Ha] <;> iassumption
  isplitl [HY] <;> iassumption

/-! ## The launch -/

def u₀ : UU :=
  (initOf (Pipeline.cells cfgs cellOf_inj) (Pipeline.launchToks cfgs cellOf_inj), launchOf barCells dmaCells allToks)
def G₀ : Dev nD → sProp 𝕄 := parked (BI.own (ER (launchOf barCells dmaCells allToks)))

/-- A device's part of the launch but for the rounds: buffers, credits, the register, what it owes. -/
def share (c : Dev nD) : sProp 𝕄 :=
  iprop(StableHlo.held (c : Thread nD τ) (Pipeline.ucRefs τ sig) (V0 m c)
    ∗ (cred (tallyAt (barCell c) () 2) ∗ bigSep Finset.univ (fun k : Fin 16 => credR (F := F) c k))
    ∗ (∃ r, prngReg c r) ∗ owes (c : Thread nD τ) (O₀ c) ∅)
/-- Its part of the rounds. -/
def rights (c : Dev nD) : sProp 𝕄 :=
  iprop(atPos ER (barCell c) 0 ∅ 0 ∗ bigSep Finset.univ (fun k : Fin 16 => openTok ER (dcell c k))
    ∗ ((dutyTok ER (barCell (lft c)) 0 0 ∗ dutyTok ER (barCell (rgt c)) 0 1) ∗ bigSep Finset.univ (fun k : Fin 16 => dutyTok ER (dcell (who k c) k) 0 0)))
/-- What every device may read: all invariants, and that all barriers are in their first round. -/
def common (κ : GSem nD τ sig → ℕ) : sProp 𝕄 :=
  iprop(invs (Gq (fW m)) (Go (fO m)) κ ∗ bigSep Finset.univ fun c : Dev nD => reached ER (barCell c) 0)
instance common_persistent (κ : GSem nD τ sig → ℕ) : BI.Persistent (common m κ) := by unfold common; infer_instance

theorem state_intro (κ : GSem nD τ sig → ℕ) (c : Dev nD) :
    iprop(common m κ ∗ (rights c ∗ share m c)) ⊢ iprop(StableHlo.held (c : Thread nD τ) (Pipeline.ucRefs τ sig) (V0 m c) ∗ E m 0 c) := by
  rw [E_0]
  unfold common rights share Tk dormant
  iintro ⟨⟨#HI, #HR⟩, ⟨Ha, Ho, ⟨Hl, Hr⟩, Ht⟩, Hh, ⟨Hb, Hc⟩, Hp, HO⟩
  ihave #Rl := (bigSep_at (fun c : Dev nD => reached ER (barCell c) 0) (lft c)) $$ HR
  ihave #Rr := (bigSep_at (fun c : Dev nD => reached ER (barCell c) 0) (rgt c)) $$ HR
  isplitl [Hh]; · iexact Hh
  isplitr [Hp HO]
  · iexists κ
    iframe HI Rl Rr Ha Hl Hr Hb Ho Ht Hc
  isplitl [Hp]; · iexact Hp
  iexists ∅
  iexact HO

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_only : ∀ sm : SemLoc sig, sm.isScoped .tc = false → sm = .reg barS := by decide

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G₀ c)) ∗ levAts L lv)
    ⊢ (|={Set.univ}=> bigSep Finset.univ fun c : Dev nD => iprop(StableHlo.held (c : Thread nD τ) (Pipeline.ucRefs τ sig) (V0 m c) ∗ E m 0 c) : sProp 𝕄) := by
  have hone (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G₀ c)
      ⊢ (iprop(share m c ∗ (semVal (barCell c) 0 ∗ G₀ c)) : sProp 𝕄) := by
    rw [show unscopedBufs c (fun b => m ((c : Thread nD τ).loc b)) = StableHlo.held (c : Thread nD τ) (Pipeline.ucRefs τ sig) (V0 m c)
      from Pipeline.unscopedBufs_held c (V0 m c), unscopedSems_eq]
    unfold share
    iintro ⟨Hh, Hs, HO, Hc, Hp, HG⟩
    ihave Hc := (creds (F := F) c) $$ Hc
    isplitr [Hs HG]
    · isplitl [Hh]; · iexact Hh
      isplitl [Hc]; · iexact Hc
      isplitl [Hp]; · iexists (ρ c); iexact Hp
      iexact HO
    isplitl [Hs] <;> iassumption
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G₀ c))
      ⊢ (iprop(bigSep Finset.univ (share m) ∗ (bigSep barCells (fun g => semVal g 0) ∗ BI.own (ER (launchOf barCells dmaCells allToks)))) : sProp 𝕄) := by
    refine (show _ ⊢ bigSep Finset.univ (fun c : Dev nD => iprop(share m c ∗ (semVal (barCell c) 0 ∗ G₀ c))) from bigSep_mono fun c _ => hone c).trans ?_
    rw [bigSep_sep', bigSep_sep', bigSep_map]
    unfold G₀
    rw [bigSep_parked]
    exact Entails.refl _
  have hopen : bigSep dmaCells (fun g => (openTok ER g : sProp 𝕄)) = bigSep Finset.univ fun c : Dev nD => bigSep Finset.univ fun k : Fin 16 => openTok ER (dcell c k) := by
    rw [bigSep_map, bigSep_univ_prod]
    rfl
  iintro ⟨H, -⟩
  ihave H := hall $$ H
  icases H with ⟨HB, Hv, Hu⟩
  imod (Rounds.fund_launch ER (Rd (Gq (fW m)) (Go (fO m))) cells_disjoint (fun g _ h => h) allToks) $$ [Hv Hu] with ⟨%κ, -, #Hinv, #Hr, Hat, Hopen, Htok⟩
  · isplitl [Hv] <;> iassumption
  imodintro
  ihave #Hinv := (invs_intro (Gq (fW m)) (Go (fO m)) κ) $$ Hinv
  ihave #Hr := (Entails.of_eq (bigSep_map (s := Finset.univ) barEmb (Φ := fun g : GSem nD τ sig => (reached ER g 0 : sProp 𝕄)))) $$ Hr
  ihave Hat := (Entails.of_eq (bigSep_map (s := Finset.univ) barEmb (Φ := fun g : GSem nD τ sig => (atPos ER g 0 ∅ 0 : sProp 𝕄)))) $$ Hat
  ihave Hopen := (Entails.of_eq hopen) $$ Hopen
  ihave Htok := (toks_dealt (F := F)) $$ Htok
  iapply (bigSep_with_persistent (R := common m κ) (Φ := fun c => iprop(rights c ∗ share m c)) fun c _ => state_intro m κ c)
  isplitr
  · unfold common
    isplitr; · iexact Hinv
    iexact Hr
  iapply (Entails.of_eq (bigSep_sep' Finset.univ (fun c : Dev nD => rights (F := F) c) (share m)).symm)
  isplitr [HB]
  · unfold rights
    iapply (Entails.of_eq (bigSep_sep' Finset.univ (fun c : Dev nD => (atPos ER (barCell c) 0 ∅ 0 : sProp 𝕄)) _).symm)
    isplitl [Hat]; · iexact Hat
    iapply (Entails.of_eq (bigSep_sep' Finset.univ (fun c : Dev nD => (bigSep Finset.univ (fun k : Fin 16 => openTok ER (dcell c k)) : sProp 𝕄)) _).symm)
    isplitl [Hopen] <;> iassumption
  iexact HB

/-! ## The run -/

/-- What a device's memory holds at the end. -/
def Ends (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_v21) = (dat m c).arrAt 5 cfg0.N

theorem mem_uc (r : Ref sig .tc) (h : r.isScoped = false) : (Proc.devRef .tc r : DevRef τ sig) ∈ Pipeline.ucRefs τ sig :=
  Finset.mem_filter.mpr ⟨StableHlo.devRef_mem_tcRefs r, by simpa using h⟩

set_option backward.isDefEq.respectTransparency.types false in
/-- Every fair run of the program from any memory with counters at zero terminates; then the arguments are as they were, the
result is what the region writes back, and all counters are zero. -/
theorem run_main : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Seg.run_eq_chain,
        show (segs m 𝒱₀ L lv (E m) () (pdats m) (reg0 m) c).map Seg.prog = [
          StableHlo.seq (hostOps0 c),
          Prog.lift (.customCall (Pipeline.entry 0) ()) ] from rfl]
      dsimp (config := { failIfUnchanged := false }) only
      exact Entails.refl _)
    (fun c => by simp only [segs, Seg.pipes_host, Seg.pipes_region, Seg.pipes_nil]; decide) O₀ L_of_ne G₀ u₀
    (by
      unfold u₀ G₀
      iintro Hu
      ihave H := (ownU_pair _ _) $$ Hu
      icases H with ⟨HP, HX⟩
      imodintro
      isplitl [HP]; · iexact HP
      rw [bigSep_parked]
      iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outs m) c) ∗ semVal (barCell c) 0))
    (hch := fun c => ⟨.rfl, enter m c, (leave m c).trans ?_⟩)
    (hinit := init m ρ)
    (QY := fun c s => Ends m c s ∧ s.sem (barCell c) = 0)
    (hfin := fun c s' => ?_)
    (hQ := fun s h hs => ⟨fun c => (h c).1, sem_eq_zero hs fun c sm hsm => by
      obtain rfl := unscoped_only sm hsm
      exact (h c).2⟩)
  · rw [E_1]
    unfold Yk
    iintro ⟨Hh, Hb, HO⟩
    isplitr [HO]
    · isplitl [Hh] <;> iassumption
    iexact HO
  · unfold StableHlo.held
    iintro ⟨⟨Hh, Hb⟩, HSI⟩
    icombine HSI Hb gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      have hb' : s'.mem.sem (barCell c) = 0 := by simpa using hb
      exact ⟨⟨(h _ (mem_uc main_arg0 rfl)).trans (V2_main_arg0 m (outs m) c), (h _ (mem_uc main_arg1 rfl)).trans (V2_main_arg1 m (outs m) c),
        (h _ (mem_uc main_arg2 rfl)).trans (V2_main_arg2 m (outs m) c), (h _ (mem_uc main_arg3 rfl)).trans (V2_main_arg3 m (outs m) c),
        (h _ (mem_uc main_arg4 rfl)).trans (V2_main_arg4 m (outs m) c), (h _ (mem_uc main_v21 rfl)).trans (V2_out m c)⟩, hb'⟩
    · iexact HSI

end Cert.KernelIdeal.Own
-- ==== Proof.Heads.lean ====
module

public import proofs.«01_k».proof.Proof.Launch
public import Idealize.ShloMosaic.Lib.Pipeline.ReadBack
public import Idealize.ShloMosaic.Lib.Pointwise

/-! The attention of one head, and what the body's stores hold, written with it. -/

@[expose] public section

noncomputable section

namespace Cert.KernelIdeal.Own

open Idealize.ShloMosaic Idealize.ShloMosaic.TcCoe
open Cert.KernelIdeal Cert.KernelIdeal.Gen

variable {F : FTy → Type} [FloatOps F]

/-- Which keys a query attends to. -/
abbrev msk : IVec S256x256 1 := k0_pay7 k0_pay3 k0_pay4 k0_pay5 k0_pay6

theorem slices_q (h : Fin 4) : S256x256.Slices ![0, 64 * h.val] S256x64 := by
  fin_cases h
  exacts [slices_S256x256_o0_0_S256x64, slices_S256x256_o0_64_S256x64, slices_S256x256_o0_128_S256x64, slices_S256x256_o0_192_S256x64]

/-- The scaled queries of head `h`. -/
def qHead (h : Fin 4) (q : FVec F S256x256 .f32) : FVec F S256x64 .bf16 :=
  truncf .bf16 (mulf (extractStridedSlice S256x64 ![0, 64 * h.val] q (slices_q h)) (broadcast S256x64 (Scalar.ofBits .f32 0x3E000000#32))) bitsLt_bf16_f32

/-- The attention of one head. -/
def head (qh : FVec F S256x64 .bf16) (k v : Vec F S1x1x1x256x64 .bf16) : FVec F S256x64 .bf16 := k0_pay22 msk qh (k0_pay21 k) v

/-- The four heads of one block, stored side by side. -/
def ctxL (q : FVec F S256x256 .f32) (k v : Fin 4 → Vec F S1x1x1x256x64 .bf16) (older : List (View.Piece (Elt F) S256x256 .bf16)) :
    List (View.Piece (Elt F) S256x256 .bf16) :=
  ⟨Rect.unit ![0, 192] S256x64.size inb_S256x256_S256x64_0_192, head (qHead 3 q) (k 3) (v 3)⟩ ::
  ⟨Rect.unit ![0, 128] S256x64.size inb_S256x256_S256x64_0_128, head (qHead 2 q) (k 2) (v 2)⟩ ::
  ⟨Rect.unit ![0, 64] S256x64.size inb_S256x256_S256x64_0_64, head (qHead 1 q) (k 1) (v 1)⟩ ::
  ⟨Rect.unit ![0, 0] S256x64.size inb_S256x256_S256x64_0_0, head (qHead 0 q) (k 0) (v 0)⟩ :: older

/-- One block of keys, at an offset. -/
def kRd (f2 : A2.view.ty.Contents (Elt F)) (off : Fin 5 → Nat) (h : ∀ a, off a + S1x1x1x256x64.size a ≤ S4x2x4x256x64.size a) :
    Vec F S1x1x1x256x64 .bf16 := View.readAt (Elt F) A2.view (Rect.unit (s := S4x2x4x256x64) off S1x1x1x256x64.size h).toLoadRect f2
/-- One block of values, at an offset. -/
def vRd (f3 : A3.view.ty.Contents (Elt F)) (off : Fin 5 → Nat) (h : ∀ a, off a + S1x1x1x256x64.size a ≤ S4x2x4x256x64.size a) :
    Vec F S1x1x1x256x64 .bf16 := View.readAt (Elt F) A3.view (Rect.unit (s := S4x2x4x256x64) off S1x1x1x256x64.size h).toLoadRect f3

theorem inb_kv (p : Fin 4) (b : Fin 2) (h : Fin 4) : ∀ a, (![p.val, b.val, h.val, 0, 0] : Fin 5 → Nat) a + S1x1x1x256x64.size a ≤ S4x2x4x256x64.size a := by
  revert p b h; decide

/-- The keys of head `h` of batch `b` of device `p`'s heads. -/
abbrev kOf (f2 : A2.view.ty.Contents (Elt F)) (p : Fin 4) (b : Fin 2) (h : Fin 4) : Vec F S1x1x1x256x64 .bf16 :=
  kRd f2 ![p.val, b.val, h.val, 0, 0] (inb_kv p b h)
abbrev vOf (f3 : A3.view.ty.Contents (Elt F)) (p : Fin 4) (b : Fin 2) (h : Fin 4) : Vec F S1x1x1x256x64 .bf16 :=
  vRd f3 ![p.val, b.val, h.val, 0, 0] (inb_kv p b h)

theorem kRd_eq (f2 : A2.view.ty.Contents (Elt F)) {off off' : Fin 5 → Nat} (e : off = off') (h h') : kRd f2 off h = kRd f2 off' h' := by subst e; rfl
theorem vRd_eq (f3 : A3.view.ty.Contents (Elt F)) {off off' : Fin 5 → Nat} (e : off = off') (h h') : vRd f3 off h = vRd f3 off' h' := by subst e; rfl

/-- Four heads read at four offsets are the four heads of a block when the offsets are the block's. -/
theorem ctxL_of (q : FVec F S256x256 .f32) (f2 : A2.view.ty.Contents (Elt F)) (f3 : A3.view.ty.Contents (Elt F)) (older) (p : Fin 4) (b : Fin 2)
    {o0 o1 o2 o3 : Fin 5 → Nat} (h0 h1 h2 h3)
    (e0 : o0 = ![p.val, b.val, 0, 0, 0]) (e1 : o1 = ![p.val, b.val, 1, 0, 0]) (e2 : o2 = ![p.val, b.val, 2, 0, 0]) (e3 : o3 = ![p.val, b.val, 3, 0, 0]) :
    ctxL q ![kRd f2 o0 h0, kRd f2 o1 h1, kRd f2 o2 h2, kRd f2 o3 h3] ![vRd f3 o0 h0, vRd f3 o1 h1, vRd f3 o2 h2, vRd f3 o3 h3] older
      = ctxL q (kOf f2 p b) (vOf f3 p b) older := by
  subst e0 e1 e2 e3; rfl

variable (fw : Dev nD → A1.view.ty.Contents (Elt F)) (fo : Dev nD → A4.view.ty.Contents (Elt F)) (c : Dev nD)
  (f0 : A0.view.ty.Contents (Elt F)) (f2 : A2.view.ty.Contents (Elt F)) (f3 : A3.view.ty.Contents (Elt F))

theorem ctx_my0 : body.sl.H9_4 fw c f0 f2 f3 = ctxL (body.sl.r_5 fw c f0) (kOf f2 c 0) (vOf f3 c 0) [] := by
  rw [← ctxL_of _ f2 f3 _ c 0 (k0_off5_inb c) (k0_off6_inb c) (k0_off7_inb c) (k0_off8_inb c)
    (k0_off5_eq c) (k0_off6_eq c) (k0_off7_eq c) (k0_off8_eq c)]
  rfl
theorem ctx_my1 : body.sl.H9_8 fw c f0 f2 f3 = ctxL (body.sl.r_10 fw c f0) (kOf f2 c 1) (vOf f3 c 1) (body.sl.H9_4 fw c f0 f2 f3) := by
  rw [← ctxL_of _ f2 f3 _ c 1 (k0_off9_inb c) (k0_off10_inb c) (k0_off11_inb c) (k0_off12_inb c)
    (k0_off9_eq c) (k0_off10_eq c) (k0_off11_eq c) (k0_off12_eq c)]
  rfl
theorem ctx_lft0 : body.sl.H9_12 fw c f0 f2 f3 = ctxL (body.sl.r_16 fw c f0) (kOf f2 (lft c) 0) (vOf f3 (lft c) 0) (body.sl.H9_8 fw c f0 f2 f3) := by
  rw [← ctxL_of _ f2 f3 _ (lft c) 0 (k0_off19_inb c 2) (k0_off20_inb c 2) (k0_off21_inb c 2) (k0_off22_inb c 2)
    (k0_off19_eq c 2) (k0_off20_eq c 2) (k0_off21_eq c 2) (k0_off22_eq c 2)]
  rfl
theorem ctx_lft1 : body.sl.H9_16 fw c f0 f2 f3 = ctxL (body.sl.r_22 fw c f0) (kOf f2 (lft c) 1) (vOf f3 (lft c) 1) (body.sl.H9_12 fw c f0 f2 f3) := by
  rw [← ctxL_of _ f2 f3 _ (lft c) 1 (k0_off23_inb c 2) (k0_off24_inb c 2) (k0_off25_inb c 2) (k0_off26_inb c 2)
    (k0_off23_eq c 2) (k0_off24_eq c 2) (k0_off25_eq c 2) (k0_off26_eq c 2)]
  rfl
theorem ctx_rgt0 : body.sl.H9_20 fw c f0 f2 f3 = ctxL (body.sl.r_30 fw c f0) (kOf f2 (rgt c) 0) (vOf f3 (rgt c) 0) (body.sl.H9_16 fw c f0 f2 f3) := by
  rw [← ctxL_of _ f2 f3 _ (rgt c) 0 (k0_off19_inb c 0) (k0_off20_inb c 0) (k0_off21_inb c 0) (k0_off22_inb c 0)
    (k0_off19_eq c 0) (k0_off20_eq c 0) (k0_off21_eq c 0) (k0_off22_eq c 0)]
  rfl
theorem ctx_rgt1 : body.sl.H9_24 fw c f0 f2 f3 = ctxL (body.sl.r_35 fw c f0) (kOf f2 (rgt c) 1) (vOf f3 (rgt c) 1) (body.sl.H9_20 fw c f0 f2 f3) := by
  rw [← ctxL_of _ f2 f3 _ (rgt c) 1 (k0_off23_inb c 0) (k0_off24_inb c 0) (k0_off25_inb c 0) (k0_off26_inb c 0)
    (k0_off23_eq c 0) (k0_off24_eq c 0) (k0_off25_eq c 0) (k0_off26_eq c 0)]
  rfl
theorem ctx_opp0 : body.sl.H9_28 fw c f0 f2 f3 = ctxL (body.sl.r_43 fw c f0) (kOf f2 (opp c) 0) (vOf f3 (opp c) 0) (body.sl.H9_24 fw c f0 f2 f3) := by
  rw [← ctxL_of _ f2 f3 _ (opp c) 0 (k0_off19_inb c 1) (k0_off20_inb c 1) (k0_off21_inb c 1) (k0_off22_inb c 1)
    (k0_off19_eq c 1) (k0_off20_eq c 1) (k0_off21_eq c 1) (k0_off22_eq c 1)]
  rfl
theorem ctx_opp1 : body.sl.H9_32 fw c f0 f2 f3 = ctxL (body.sl.r_49 fw c f0) (kOf f2 (opp c) 1) (vOf f3 (opp c) 1) (body.sl.H9_28 fw c f0 f2 f3) := by
  rw [← ctxL_of _ f2 f3 _ (opp c) 1 (k0_off23_inb c 1) (k0_off24_inb c 1) (k0_off25_inb c 1) (k0_off26_inb c 1)
    (k0_off23_eq c 1) (k0_off24_eq c 1) (k0_off25_eq c 1) (k0_off26_eq c 1)]
  rfl

/-! ## Queries, weights and inputs -/

/-- Device `p`'s query weights, as gathered. -/
def qRd (off : Fin 3 → Nat) (h : ∀ a, off a + S1x512x256.size a ≤ S4x512x256.size a) : Vec F S1x512x256 .bf16 :=
  View.readAt (Elt F) A6.view (Rect.unit (s := S4x512x256) off S1x512x256.size h).toLoadRect (Gq fw)
/-- Device `p`'s output weights, as gathered. -/
def oRd (off : Fin 3 → Nat) (h : ∀ a, off a + S1x256x512.size a ≤ S4x256x512.size a) : Vec F S1x256x512 .bf16 :=
  View.readAt (Elt F) A7.view (Rect.unit (s := S4x256x512) off S1x256x512.size h).toLoadRect (Go fo)

theorem inb_q (p : Fin 4) : ∀ a, (![p.val, 0, 0] : Fin 3 → Nat) a + S1x512x256.size a ≤ S4x512x256.size a := by revert p; decide
theorem inb_o (p : Fin 4) : ∀ a, (![p.val, 0, 0] : Fin 3 → Nat) a + S1x256x512.size a ≤ S4x256x512.size a := by revert p; decide

theorem qRd_eq {off off' : Fin 3 → Nat} (e : off = off') (h h') : qRd fw off h = qRd fw off' h' := by subst e; rfl
theorem oRd_eq {off off' : Fin 3 → Nat} (e : off = off') (h h') : oRd fo off h = oRd fo off' h' := by subst e; rfl

/-- One batch of the input, as the body keeps it. -/
def xOf (b : Fin 2) : Vec F S1x256x512 .bf16 :=
  match b with
  | 0 => k0_pay11 (View.readAt (Elt F) A0.view (Rect.unit (s := S2x256x512) ![0, 0, 0] S1x256x512.size inb_S2x256x512_S1x256x512_0_0_0).toLoadRect f0)
  | 1 => k0_pay13 (k0_pay12 (View.readAt (Elt F) A0.view (Rect.unit (s := S2x256x512) ![1, 0, 0] S1x256x512.size inb_S2x256x512_S1x256x512_1_0_0).toLoadRect f0))

theorem v146_eq : body.sl.v146 f0 = xOf f0 0 := by
  unfold body.sl.v146 body.sl.H8_2 body.sl.H8_1
  simp (disch := decide) only [↓View.readCov_skip, ↓View.readCov_cons_toLoadRect]
  rfl
theorem v258_eq : body.sl.v258 f0 = xOf f0 1 := by
  unfold body.sl.v258 body.sl.H8_2
  simp (disch := decide) only [↓View.readCov_skip, ↓View.readCov_cons_toLoadRect]
  rfl

/-- The queries of batch `b` by device `p`'s weights. -/
def qOf (p : Fin 4) (b : Fin 2) : FVec F S256x256 .f32 := k0_pay16 (qRd fw ![p.val, 0, 0] (inb_q p)) (xOf f0 b)

theorem q_of {off : Fin 3 → Nat} (h) (p : Fin 4) (e : off = ![p.val, 0, 0]) (b : Fin 2) (x) (hx : x = xOf f0 b) :
    k0_pay16 (qRd fw off h) x = qOf fw f0 p b := by subst e hx; rfl

theorem r_5_eq : body.sl.r_5 fw c f0 = qOf fw f0 c 0 := (q_of fw f0 (k0_off1_inb c) c (k0_off1_eq c) 0 (body.sl.v146 f0) (v146_eq f0) :)
theorem r_10_eq : body.sl.r_10 fw c f0 = qOf fw f0 c 1 := (q_of fw f0 (k0_off1_inb c) c (k0_off1_eq c) 1 (body.sl.v258 f0) (v258_eq f0) :)
theorem r_16_eq : body.sl.r_16 fw c f0 = qOf fw f0 (lft c) 0 := (q_of fw f0 (k0_off17_inb c 2) (lft c) (k0_off17_eq c 2) 0 (body.sl.v146 f0) (v146_eq f0) :)
theorem r_22_eq : body.sl.r_22 fw c f0 = qOf fw f0 (lft c) 1 := (q_of fw f0 (k0_off17_inb c 2) (lft c) (k0_off17_eq c 2) 1 (body.sl.v258 f0) (v258_eq f0) :)
theorem r_30_eq : body.sl.r_30 fw c f0 = qOf fw f0 (rgt c) 0 := (q_of fw f0 (k0_off17_inb c 0) (rgt c) (k0_off17_eq c 0) 0 (body.sl.v146 f0) (v146_eq f0) :)
theorem r_35_eq : body.sl.r_35 fw c f0 = qOf fw f0 (rgt c) 1 := (q_of fw f0 (k0_off17_inb c 0) (rgt c) (k0_off17_eq c 0) 1 (body.sl.v258 f0) (v258_eq f0) :)
theorem r_43_eq : body.sl.r_43 fw c f0 = qOf fw f0 (opp c) 0 := (q_of fw f0 (k0_off17_inb c 1) (opp c) (k0_off17_eq c 1) 0 (body.sl.v146 f0) (v146_eq f0) :)
theorem r_49_eq : body.sl.r_49 fw c f0 = qOf fw f0 (opp c) 1 := (q_of fw f0 (k0_off17_inb c 1) (opp c) (k0_off17_eq c 1) 1 (body.sl.v258 f0) (v258_eq f0) :)

/-- Device `p`'s output weights. -/
def wOf (p : Fin 4) : FVec F S256x512 .bf16 := k0_pay15 (oRd fo ![p.val, 0, 0] (inb_o p))
theorem w_of {off : Fin 3 → Nat} (h) (p : Fin 4) (e : off = ![p.val, 0, 0]) : k0_pay15 (oRd fo off h) = wOf fo p := by subst e; rfl
theorem r_4_eq : body.sl.r_4 fo c = wOf fo c := (w_of fo (k0_off2_inb c) c (k0_off2_eq c) :)
theorem r_15_eq : body.sl.r_15 fo c = wOf fo (lft c) := (w_of fo (k0_off18_inb c 2) (lft c) (k0_off18_eq c 2) :)
theorem r_29_eq : body.sl.r_29 fo c = wOf fo (rgt c) := (w_of fo (k0_off18_inb c 0) (rgt c) (k0_off18_eq c 0) :)
theorem r_42_eq : body.sl.r_42 fo c = wOf fo (opp c) := (w_of fo (k0_off18_inb c 1) (opp c) (k0_off18_eq c 1) :)

/-! ## The context read back, and the result -/

/-- The four heads side by side. -/
def ctxV (q : FVec F S256x256 .f32) (k v : Fin 4 → Vec F S1x1x1x256x64 .bf16) : Vec F S256x256 .bf16 := fun j =>
  let h : Fin 4 := ⟨(j 1).val / 64, by have := (j 1).isLt; change (j 1).val < 256 at this; omega⟩
  head (qHead h q) (k h) (v h) (ix2 (n0 := 256) (n1 := 64) (j 0) ⟨(j 1).val % 64, Nat.mod_lt _ (by decide)⟩)

theorem mem_lanes (h : Fin 4) (inb) (y : S256x256.Idx) : y ∈ (Rect.unit (s := S256x256) ![0, 64 * h.val] S256x64.size inb).set ↔ (y 1).val / 64 = h.val := by
  rw [Rect.mem_set_unit, Fin.forall_fin_two]
  have h0 : (y 0).val < 256 := (y 0).isLt
  show ((0 ≤ (y 0).val ∧ (y 0).val < 0 + 256) ∧ 64 * h.val ≤ (y 1).val ∧ (y 1).val < 64 * h.val + 64) ↔ _
  omega

/-- A head is its 64 columns of the heads side by side. -/
theorem head_lanes (q : FVec F S256x256 .f32) (k v : Fin 4 → Vec F S1x1x1x256x64 .bf16) (h : Fin 4) (inb)
    (x : (Rect.unit (s := S256x256) ![0, 64 * h.val] S256x64.size inb).shape.Idx) :
    head (qHead h q) (k h) (v h) x = ctxV q k v ((Rect.unit (s := S256x256) ![0, 64 * h.val] S256x64.size inb).emb x) := by
  have h1 : (x 1).val < 64 := (x 1).isLt
  have e1 : (((Rect.unit (s := S256x256) ![0, 64 * h.val] S256x64.size inb).emb x) 1).val = 64 * h.val + (x 1).val := by
    show 64 * h.val + 1 * (x 1).val = _; omega
  have e0 : (((Rect.unit (s := S256x256) ![0, 64 * h.val] S256x64.size inb).emb x) 0).val = (x 0).val := by
    show 0 + 1 * (x 0).val = _; omega
  generalize (Rect.unit (s := S256x256) ![0, 64 * h.val] S256x64.size inb).emb x = y at e0 e1
  have hh : (⟨(y 1).val / 64, by have := (y 1).isLt; change (y 1).val < 256 at this; omega⟩ : Fin 4) = h := Fin.ext (by show (y 1).val / 64 = _; omega)
  unfold ctxV
  simp only [hh]
  congr 1
  funext a
  apply Fin.ext
  fin_cases a
  · exact e0.symm
  · show (x 1).val = (y 1).val % 64; omega

theorem ctx_read (q : FVec F S256x256 .f32) (k v : Fin 4 → Vec F S1x1x1x256x64 .bf16) (older) :
    A9.view.readCov (ctxL q k v older) (Rect.unit (s := S256x256) ![0, 0] S256x256.size inb_S256x256_S256x256_0_0).toLoadRect = ctxV q k v := by
  rw [View.readCov_eq_canon']
  funext j
  have e : (Rect.unit (s := S256x256) ![0, 0] S256x256.size inb_S256x256_S256x256_0_0).toLoadRect.idx j = j := by
    funext a; apply Fin.ext; fin_cases a <;> simp [Rect.toLoadRect, LoadRect.idx]
  rw [e]
  refine View.canon_append_of_piecesOf (ctxV q k v) older
    [⟨Rect.unit ![0, 192] S256x64.size inb_S256x256_S256x64_0_192, head (qHead 3 q) (k 3) (v 3)⟩,
     ⟨Rect.unit ![0, 128] S256x64.size inb_S256x256_S256x64_0_128, head (qHead 2 q) (k 2) (v 2)⟩,
     ⟨Rect.unit ![0, 64] S256x64.size inb_S256x256_S256x64_0_64, head (qHead 1 q) (k 1) (v 1)⟩,
     ⟨Rect.unit ![0, 0] S256x64.size inb_S256x256_S256x64_0_0, head (qHead 0 q) (k 0) (v 0)⟩]
    ⟨fun x => head_lanes q k v 3 inb_S256x256_S256x64_0_192 x, fun x => head_lanes q k v 2 inb_S256x256_S256x64_0_128 x, fun x => head_lanes q k v 1 inb_S256x256_S256x64_0_64 x, fun x => head_lanes q k v 0 inb_S256x256_S256x64_0_0 x, trivial⟩ j ?_
  have h1 : (j 1).val < 256 := (j 1).isLt
  have hc : (j 1).val / 64 = 0 ∨ (j 1).val / 64 = 1 ∨ (j 1).val / 64 = 2 ∨ (j 1).val / 64 = 3 := by omega
  rcases hc with hc | hc | hc | hc
  · exact ⟨_, List.mem_cons_of_mem _ (List.mem_cons_of_mem _ (List.mem_cons_of_mem _ List.mem_cons_self)), (mem_lanes 0 inb_S256x256_S256x64_0_0 j).mpr hc⟩
  · exact ⟨_, List.mem_cons_of_mem _ (List.mem_cons_of_mem _ List.mem_cons_self), (mem_lanes 1 inb_S256x256_S256x64_0_64 j).mpr hc⟩
  · exact ⟨_, List.mem_cons_of_mem _ List.mem_cons_self, (mem_lanes 2 inb_S256x256_S256x64_0_128 j).mpr hc⟩
  · exact ⟨_, List.mem_cons_self, (mem_lanes 3 inb_S256x256_S256x64_0_192 j).mpr hc⟩

/-- The context of batch `b` by device `p`'s heads. -/
def cOf (p : Fin 4) (b : Fin 2) : Vec F S256x256 .bf16 := ctxV (qOf fw f0 p b) (kOf f2 p b) (vOf f3 p b)

theorem v253_eq : body.sl.v253 fw c f0 f2 f3 = cOf fw f0 f2 f3 c 0 := by
  unfold body.sl.v253; rw [ctx_my0, r_5_eq]; exact ctx_read _ _ _ _
theorem v365_eq : body.sl.v365 fw c f0 f2 f3 = cOf fw f0 f2 f3 c 1 := by
  unfold body.sl.v365; rw [ctx_my1, r_10_eq]; exact ctx_read _ _ _ _
theorem v579_eq : body.sl.v579 fw c f0 f2 f3 = cOf fw f0 f2 f3 (lft c) 0 := by
  unfold body.sl.v579; rw [ctx_lft0, r_16_eq]; exact ctx_read _ _ _ _
theorem v694_eq : body.sl.v694 fw c f0 f2 f3 = cOf fw f0 f2 f3 (lft c) 1 := by
  unfold body.sl.v694; rw [ctx_lft1, r_22_eq]; exact ctx_read _ _ _ _
theorem v815_eq : body.sl.v815 fw c f0 f2 f3 = cOf fw f0 f2 f3 (rgt c) 0 := by
  unfold body.sl.v815; rw [ctx_rgt0, r_30_eq]; exact ctx_read _ _ _ _
theorem v930_eq : body.sl.v930 fw c f0 f2 f3 = cOf fw f0 f2 f3 (rgt c) 1 := by
  unfold body.sl.v930; rw [ctx_rgt1, r_35_eq]; exact ctx_read _ _ _ _
theorem v1107_eq : body.sl.v1107 fw c f0 f2 f3 = cOf fw f0 f2 f3 (opp c) 0 := by
  unfold body.sl.v1107; rw [ctx_opp0, r_43_eq]; exact ctx_read _ _ _ _
theorem v1222_eq : body.sl.v1222 fw c f0 f2 f3 = cOf fw f0 f2 f3 (opp c) 1 := by
  unfold body.sl.v1222; rw [ctx_opp1, r_49_eq]; exact ctx_read _ _ _ _

/-- What the result holds of batch `b`: the four devices' parts, summed in the order they arrive. -/
def outOf (b : Fin 2) : Vec F S1x256x512 .f32 :=
  k0_pay47 (wOf fo (opp c)) (cOf fw f0 f2 f3 (opp c) b) (k0_pay47 (wOf fo (rgt c)) (cOf fw f0 f2 f3 (rgt c) b)
    (k0_pay47 (wOf fo (lft c)) (cOf fw f0 f2 f3 (lft c) b) (k0_pay25 (wOf fo c) (cOf fw f0 f2 f3 c b))))

theorem v581_eq : body.sl.v581 fw fo c f0 f2 f3 = k0_pay25 (wOf fo c) (cOf fw f0 f2 f3 c 0) := by
  unfold body.sl.v581 body.sl.H5_1
  simp (disch := decide) only [↓View.readCov_skip, ↓View.readCov_cons_toLoadRect]
  rw [r_4_eq, v253_eq]
theorem v696_eq : body.sl.v696 fw fo c f0 f2 f3 = k0_pay25 (wOf fo c) (cOf fw f0 f2 f3 c 1) := by
  unfold body.sl.v696 body.sl.H5_3
  simp (disch := decide) only [↓View.readCov_skip, ↓View.readCov_cons_toLoadRect]
  rw [r_4_eq, v365_eq]; rfl
theorem v817_eq : body.sl.v817 fw fo c f0 f2 f3 = k0_pay47 (wOf fo (lft c)) (cOf fw f0 f2 f3 (lft c) 0) (k0_pay25 (wOf fo c) (cOf fw f0 f2 f3 c 0)) := by
  unfold body.sl.v817 body.sl.H5_3
  simp (disch := decide) only [↓View.readCov_skip, ↓View.readCov_cons_toLoadRect]
  rw [r_15_eq, v579_eq, v581_eq]
theorem v932_eq : body.sl.v932 fw fo c f0 f2 f3 = k0_pay47 (wOf fo (lft c)) (cOf fw f0 f2 f3 (lft c) 1) (k0_pay25 (wOf fo c) (cOf fw f0 f2 f3 c 1)) := by
  unfold body.sl.v932 body.sl.H5_5
  simp (disch := decide) only [↓View.readCov_skip, ↓View.readCov_cons_toLoadRect]
  unfold body.sl.r_27
  rw [r_15_eq, v694_eq, v696_eq]; rfl
theorem v1109_eq : body.sl.v1109 fw fo c f0 f2 f3 = k0_pay47 (wOf fo (rgt c)) (cOf fw f0 f2 f3 (rgt c) 0)
    (k0_pay47 (wOf fo (lft c)) (cOf fw f0 f2 f3 (lft c) 0) (k0_pay25 (wOf fo c) (cOf fw f0 f2 f3 c 0))) := by
  unfold body.sl.v1109 body.sl.H5_6 body.sl.H5_5
  simp (disch := decide) only [↓View.readCov_skip, ↓View.readCov_cons_toLoadRect]
  rw [r_29_eq, v815_eq, v817_eq]; rfl
theorem v1224_eq : body.sl.v1224 fw fo c f0 f2 f3 = k0_pay47 (wOf fo (rgt c)) (cOf fw f0 f2 f3 (rgt c) 1)
    (k0_pay47 (wOf fo (lft c)) (cOf fw f0 f2 f3 (lft c) 1) (k0_pay25 (wOf fo c) (cOf fw f0 f2 f3 c 1))) := by
  unfold body.sl.v1224 body.sl.H5_7 body.sl.H5_6
  simp (disch := decide) only [↓View.readCov_skip, ↓View.readCov_cons_toLoadRect]
  rw [r_29_eq, v930_eq, v932_eq]; rfl

/-- The two newest stores of the result are its two batches. -/
theorem body_stores : ∃ older, (body fw fo c f0 f2 f3).1 =
    (⟨Rect.unit (s := S2x256x512) ![1, 0, 0] S1x256x512.size inb_S2x256x512_S1x256x512_1_0_0, outOf fw fo c f0 f2 f3 1⟩ : View.Piece (Elt F) S2x256x512 .f32) ::
    ⟨Rect.unit (s := S2x256x512) ![0, 0, 0] S1x256x512.size inb_S2x256x512_S1x256x512_0_0_0, outOf fw fo c f0 f2 f3 0⟩ :: older := by
  refine ⟨body.sl.H5_6 fw fo c f0 f2 f3, ?_⟩
  unfold outOf
  rw [← v1224_eq, ← v1109_eq, ← r_42_eq, ← v1107_eq, ← v1222_eq]
  rfl

end Cert.KernelIdeal.Own
-- ==== Proof.Attn.lean ====
module

public import Idealize.ShloMosaic.Lib.Pointwise

/-! The arithmetic the two programs agree by: the attention mask, the softmax with and without its maximum subtracted, the
scale moved across a sum, and a sum over all heads as the four devices' sums. -/

@[expose] public section

noncomputable section

namespace Cert.Attn

open Idealize.ShloMosaic

/-- Query `i` attends to key `j`: same block of 64, or the first block, or block numbers that sum to a multiple of three. -/
def mk (i j : Fin 256) : BitVec 1 :=
  if i.val / 64 = j.val / 64 ∨ j.val / 64 = 0 ∨ (i.val / 64 + j.val / 64) % 3 = 0 then 1#1 else 0#1

/-- The same, of block numbers. -/
def mkB (a b : Fin 4) : BitVec 1 := if a = b ∨ b = 0 ∨ (a.val + b.val) % 3 = 0 then 1#1 else 0#1

theorem mk_eq (i j : Fin 256) : mk i j = mkB ⟨i.val / 64, by have := i.isLt; omega⟩ ⟨j.val / 64, by have := j.isLt; omega⟩ := by
  unfold mk mkB
  simp only [Fin.ext_iff, Fin.val_zero]

/-- An extended real that is a real. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type} [Fintype ι] {f : ι → EReal} (h : ∀ i, IsR (f i)) : IsR (∑ i, f i) := by
  choose g hg using h
  exact ⟨∑ i, g i, by rw [coe_sum]; exact Finset.sum_congr rfl fun i _ => hg i⟩

theorem IsR.select {c : BitVec 1} {x y : EReal} (hx : IsR x) (hy : IsR y) : IsR (Scalar.select c x y) := by
  unfold Scalar.select; split <;> assumption

theorem isR_eighth : IsR (Ideal.ofBits .f32 0x3E000000#32) :=
  ⟨1 / 8, by simp [Ideal.ofBits, Ideal.ieee, -EReal.coe_mul]; norm_num⟩
theorem isR_neg : IsR (Ideal.ofBits .f32 0xCE6E6B28#32) :=
  ⟨-1000000000, by simp [Ideal.ofBits, Ideal.ieee, -EReal.coe_mul, -EReal.coe_neg]; norm_num⟩
theorem negInf : Ideal.ofBits .f32 0xFF800000#32 = ⊥ := by simp [Ideal.ofBits, Ideal.ieee]
theorem posInf : Ideal.ofBits .f32 0x7F800000#32 = ⊤ := by simp [Ideal.ofBits, Ideal.ieee]

/-- A value whose magnitude is below infinity is a real. -/
theorem isR_of_abs_lt {x : EReal} (h : max x (-x) < ⊤) : IsR x := by
  rw [max_lt_iff] at h
  refine ⟨x.toReal, (EReal.coe_toReal h.1.ne ?_).symm⟩
  rintro rfl; exact absurd h.2 (by simp)

/-- A scale on each term of a sum of products of reals is a scale on the sum. -/
theorem sum_scale {ι : Type} [Fintype ι] {q k : ι → EReal} {c : EReal} (hq : ∀ i, IsR (q i)) (hk : ∀ i, IsR (k i)) (hc : IsR c) :
    ∑ i, (q i * c) * k i = (∑ i, q i * k i) * c := by
  choose q' hq using hq
  choose k' hk using hk
  obtain ⟨c', rfl⟩ := hc
  simp only [hq, hk, ← EReal.coe_mul, ← coe_sum]
  congr 1
  rw [Finset.sum_mul]
  exact Finset.sum_congr rfl fun i _ => by ring

theorem fold_max_real (s : Fin 256 → ℝ) : ∃ r : ℝ, Finset.univ.fold max (⊥ : EReal) (fun j => (s j : EReal)) = (r : EReal) := by
  have h : ∀ t : Finset (Fin 256), t.Nonempty → ∃ r : ℝ, t.fold max (⊥ : EReal) (fun j => (s j : EReal)) = (r : EReal) := by
    intro t ht
    induction ht using Finset.Nonempty.cons_induction with
    | singleton a => exact ⟨s a, by simp⟩
    | cons a t ha _ ih =>
      obtain ⟨r, hr⟩ := ih
      exact ⟨max (s a) r, by rw [Finset.fold_cons, hr]; exact (EReal.coe_strictMono.monotone.map_max).symm⟩
  exact h _ Finset.univ_nonempty

/-- The softmax of reals does not change when their maximum is subtracted first. -/
theorem softmax_shift {s : Fin 256 → EReal} (hs : ∀ j, IsR (s j)) (j : Fin 256) :
    Ideal.div (Ideal.exp (s j - Finset.univ.fold max (⊥ : EReal) s)) (∑ x, Ideal.exp (s x - Finset.univ.fold max (⊥ : EReal) s))
      = Ideal.exp (s j) * Ideal.div 1 (∑ x, Ideal.exp (s x)) := by
  choose f hf using hs
  obtain rfl : s = fun j => (f j : EReal) := funext hf
  obtain ⟨M, hM⟩ := fold_max_real f
  simp only [hM, ← EReal.coe_sub, Ideal.exp_coe, ← coe_sum]
  have hp : 0 < ∑ x, Real.exp (f x) := Finset.sum_pos (fun x _ => Real.exp_pos _) Finset.univ_nonempty
  have hp' : 0 < ∑ x, Real.exp (f x - M) := Finset.sum_pos (fun x _ => Real.exp_pos _) Finset.univ_nonempty
  rw [Ideal.div_coe hp'.ne', Ideal.div_coe hp.ne', one_mul, ← EReal.coe_mul, ← EReal.coe_mul]
  congr 1
  simp only [Real.exp_sub, ← Finset.sum_div]
  have := Real.exp_pos M
  field_simp

/-- A sum over the 1024 lanes of all heads is a sum over devices and over a device's 256 lanes. -/
theorem sum_devs (f : Fin 1024 → EReal) :
    ∑ l, f l = ∑ p : Fin 4, ∑ l : Fin 256, f ⟨256 * p.val + l.val, by have := p.isLt; have := l.isLt; omega⟩ := by
  rw [← Fintype.sum_prod_type' (fun (p : Fin 4) (l : Fin 256) => f ⟨256 * p.val + l.val, by have := p.isLt; have := l.isLt; omega⟩)]
  refine (Finset.sum_bij' (fun (x : Fin 4 × Fin 256) _ => (⟨256 * x.1.val + x.2.val, by have := x.1.isLt; have := x.2.isLt; omega⟩ : Fin 1024))
    (fun l _ => (⟨l.val / 256, by have := l.isLt; omega⟩, ⟨l.val % 256, Nat.mod_lt _ (by decide)⟩)) ?_ ?_ ?_ ?_ ?_).symm
  · intros; simp
  · intros; simp
  · rintro ⟨p, l⟩ _; ext <;> simp <;> have := l.isLt <;> omega
  · intro l _; ext; simp; omega
  · intros; rfl

/-- The four devices in the order a device meets them: itself, left, right, opposite. -/
theorem sum_ring (c : Fin 4) (g : Fin 4 → EReal) :
    ((g c + g ⟨(c.val + 3) % 4, Nat.mod_lt _ (by decide)⟩) + g ⟨(c.val + 1) % 4, Nat.mod_lt _ (by decide)⟩) + g ⟨(c.val + 2) % 4, Nat.mod_lt _ (by decide)⟩
      = ∑ p, g p := by
  rw [Fin.sum_univ_four]
  match c with
  | 0 => change ((g 0 + g 3) + g 1) + g 2 = _; abel
  | 1 => change ((g 1 + g 0) + g 2) + g 3 = _; abel
  | 2 => change ((g 2 + g 1) + g 3) + g 0 = _; abel
  | 3 => change ((g 3 + g 2) + g 0) + g 1 = _; abel

end Cert.Attn
-- ==== Proof.KVal.lean ====
module

public import proofs.«01_k».proof.Proof.Heads
public import proofs.«01_k».proof.Proof.Attn

/-! The kernel's result, read at an index. -/

@[expose] public section

set_option maxHeartbeats 1000000

noncomputable section

namespace Cert.KernelIdeal.Own

open Idealize.ShloMosaic Idealize.ShloMosaic.TcCoe
open Cert.KernelIdeal Cert.KernelIdeal.Gen

theorem fd_eq (i : Fin 256) :
    Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) = BitVec.ofNat 32 (i.val / 64) := by
  revert i; decide +kernel

theorem msk_at (i j : Fin 256) : msk (ix2 i j) = Attn.mk i j := by
  rw [Attn.mk_eq]
  pointwise [msk, k0_pay7, k0_pay3, k0_pay4, k0_pay5, k0_pay6]
  rw [fd_eq, fd_eq]
  generalize hp : (⟨i.val / 64, by have := i.isLt; omega⟩ : Fin 4) = p
  generalize hr : (⟨j.val / 64, by have := j.isLt; omega⟩ : Fin 4) = r
  rw [show i.val / 64 = p.val from congrArg Fin.val hp, show j.val / 64 = r.val from congrArg Fin.val hr]
  clear hp hr
  revert p r; decide +kernel

theorem qproj_at (w : Vec Ideal S1x512x256 .bf16) (x : Vec Ideal S1x256x512 .bf16) (i : Fin 256) (l : Fin 256) :
    k0_pay16 w x (ix2 i l) = ∑ k : Fin 512, x (ix3 0 i k) * w (ix3 0 k l) := by
  pointwise [k0_pay16, k0_pay14]

theorem qHead_at (h : Fin 4) (q : FVec Ideal S256x256 .f32) (i : Fin 256) (e : Fin 64) :
    qHead h q (ix2 i e) = q (ix2 i ⟨64 * h.val + e.val, by have := h.isLt; have := e.isLt; omega⟩) * Ideal.ofBits .f32 0x3E000000#32 := by
  fin_cases h <;> pointwise [qHead] <;> rfl

/-- One head's result. -/
theorem head_at (qh : FVec Ideal S256x64 .bf16) (k v : Vec Ideal S1x1x1x256x64 .bf16) (i : Fin 256) (e : Fin 64) (s : Fin 256 → EReal)
    (hs : s = fun j => Scalar.select (Attn.mk i j) (∑ d : Fin 64, qh (ix2 i d) * k (ix5 0 0 0 j d)) (Ideal.ofBits .f32 0xCE6E6B28#32)) :
    head qh k v (ix2 i e) = ∑ j : Fin 256, Ideal.exp (s j) * Ideal.div 1 (∑ y : Fin 256, Ideal.exp (s y)) * v (ix5 0 0 0 j e) := by
  subst hs
  pointwise [head, k0_pay22, k0_pay21]
  simp only [msk_at]

theorem part_at (w : FVec Ideal S256x512 .bf16) (x : FVec Ideal S256x256 .bf16) (i : Fin 256) (n : Fin 512) :
    k0_pay25 w x (ix3 0 i n) = ∑ l : Fin 256, x (ix2 i l) * w (ix2 l n) := by
  pointwise [k0_pay25]
theorem add_at (w : FVec Ideal S256x512 .bf16) (x : FVec Ideal S256x256 .bf16) (o : Vec Ideal S1x256x512 .f32) (i : Fin 256) (n : Fin 512) :
    k0_pay47 w x o (ix3 0 i n) = o (ix3 0 i n) + ∑ l : Fin 256, x (ix2 i l) * w (ix2 l n) := by
  pointwise [k0_pay47]

section Reads
variable (fw : Dev nD → A1.view.ty.Contents (Elt Ideal)) (fo : Dev nD → A4.view.ty.Contents (Elt Ideal)) (c : Dev nD)
  (f0 : A0.view.ty.Contents (Elt Ideal)) (f2 : A2.view.ty.Contents (Elt Ideal)) (f3 : A3.view.ty.Contents (Elt Ideal))

theorem xOf_at (b : Fin 2) (i : Fin 256) (k : Fin 512) : xOf f0 b (ix3 0 i k) = f0 (ix3 b i k) := by
  match b with
  | 0 =>
    unfold xOf
    pointwise [k0_pay11]
    rw [View.readAt_apply]
    refine congrArg f0 ?_
    funext a; apply Fin.ext; fin_cases a
    · rfl
    · show 0 + 1 * i.val = i.val; omega
    · show 0 + 1 * k.val = k.val; omega
  | 1 =>
    unfold xOf
    pointwise [k0_pay12, k0_pay13]
    rw [View.readAt_apply]
    refine congrArg f0 ?_
    funext a; apply Fin.ext; fin_cases a
    · rfl
    · show 0 + 1 * i.val = i.val; omega
    · show 0 + 1 * k.val = k.val; omega

theorem rect_kv (p : Fin 4) (b : Fin 2) (h : Fin 4) (j : Fin 256) (d : Fin 64) :
    (Rect.unit (s := S4x2x4x256x64) ![p.val, b.val, h.val, 0, 0] S1x1x1x256x64.size (inb_kv p b h)).toLoadRect.idx (ix5 0 0 0 j d) = ix5 p b h j d := by
  funext a; apply Fin.ext; fin_cases a
  · show p.val + 1 * 0 = p.val; omega
  · show b.val + 1 * 0 = b.val; omega
  · show h.val + 1 * 0 = h.val; omega
  · show 0 + 1 * j.val = j.val; omega
  · show 0 + 1 * d.val = d.val; omega

theorem kOf_at (p : Fin 4) (b : Fin 2) (h : Fin 4) (j : Fin 256) (d : Fin 64) : kOf f2 p b h (ix5 0 0 0 j d) = f2 (ix5 p b h j d) :=
  congrArg f2 (rect_kv p b h j d)
theorem vOf_at (p : Fin 4) (b : Fin 2) (h : Fin 4) (j : Fin 256) (d : Fin 64) : vOf f3 p b h (ix5 0 0 0 j d) = f3 (ix5 p b h j d) :=
  congrArg f3 (rect_kv p b h j d)

theorem wqc_at (f : A1.view.ty.Contents (Elt Ideal)) (k : Fin 512) (l : Fin 256) : wqc f (ix3 0 k l) = f (ix2 k l) := by
  unfold wqc
  pointwise [k0_pay9, k0_pay8]
  rw [View.readAt_apply]
  refine congrArg f ?_
  funext a; apply Fin.ext; fin_cases a
  · show 0 + 1 * k.val = k.val; omega
  · show 0 + 1 * l.val = l.val; omega
theorem woc_at (f : A4.view.ty.Contents (Elt Ideal)) (l : Fin 256) (n : Fin 512) : woc f (ix3 0 l n) = f (ix2 l n) := by
  unfold woc
  pointwise [k0_pay10]
  rw [View.readAt_apply]
  refine congrArg f ?_
  funext a; apply Fin.ext; fin_cases a
  · show 0 + 1 * l.val = l.val; omega
  · show 0 + 1 * n.val = n.val; omega

theorem qRd_at (p : Fin 4) (k : Fin 512) (l : Fin 256) : qRd fw ![p.val, 0, 0] (inb_q p) (ix3 0 k l) = fw p (ix2 k l) := by
  have e : (Rect.unit (s := S4x512x256) ![p.val, 0, 0] S1x512x256.size (inb_q p)).toLoadRect.idx (ix3 0 k l) = ix3 p k l := by
    funext a; apply Fin.ext; fin_cases a
    · show p.val + 1 * 0 = p.val; omega
    · show 0 + 1 * k.val = k.val; omega
    · show 0 + 1 * l.val = l.val; omega
  refine (congrArg (Gq fw) e).trans ?_
  refine Eq.trans (congrArg (wqc (fw p)) (show _ = ix3 0 k l from ?_)) (wqc_at (fw p) k l)
  funext a; fin_cases a <;> rfl
theorem wOf_at (p : Fin 4) (l : Fin 256) (n : Fin 512) : wOf fo p (ix2 l n) = fo p (ix2 l n) := by
  unfold wOf
  pointwise [k0_pay15]
  have e : (Rect.unit (s := S4x256x512) ![p.val, 0, 0] S1x256x512.size (inb_o p)).toLoadRect.idx (ix3 0 l n) = ix3 p l n := by
    funext a; apply Fin.ext; fin_cases a
    · show p.val + 1 * 0 = p.val; omega
    · show 0 + 1 * l.val = l.val; omega
    · show 0 + 1 * n.val = n.val; omega
  refine (congrArg (Go fo) e).trans ?_
  refine Eq.trans (congrArg (woc (fo p)) (show _ = ix3 0 l n from ?_)) (woc_at (fo p) l n)
  funext a; fin_cases a <;> rfl

end Reads

/-! ## The context and the parts -/

section Terms
variable (wq : Fin 4 → FVec Ideal S512x256 .f32) (wo : Fin 4 → FVec Ideal S256x512 .f32) (x : FVec Ideal S2x256x512 .f32)
  (k v : FVec Ideal S4x2x4x256x64 .bf16)

/-- Batch `b`'s scaled query times key, masked, by device `p`'s head `h`. -/
def kScore (p : Fin 4) (b : Fin 2) (h : Fin 4) (i j : Fin 256) : EReal :=
  Scalar.select (Attn.mk i j)
    (∑ d : Fin 64, ((∑ e : Fin 512, x (ix3 b i e) * wq p (ix2 e ⟨64 * h.val + d.val, by have := h.isLt; have := d.isLt; omega⟩))
      * Ideal.ofBits .f32 0x3E000000#32) * k (ix5 p b h j d)) (Ideal.ofBits .f32 0xCE6E6B28#32)

/-- The context of head `h` of device `p`, lane `e`. -/
def ctxAt (p : Fin 4) (b : Fin 2) (h : Fin 4) (i : Fin 256) (e : Fin 64) : EReal :=
  ∑ j : Fin 256, Ideal.exp (kScore wq x k p b h i j) * Ideal.div 1 (∑ y : Fin 256, Ideal.exp (kScore wq x k p b h i y)) * v (ix5 p b h j e)

/-- Device `p`'s part of the result. -/
def partAt (b : Fin 2) (i : Fin 256) (n : Fin 512) (p : Fin 4) : EReal :=
  ∑ l : Fin 256, ctxAt wq x k v p b ⟨l.val / 64, by have := l.isLt; omega⟩ i ⟨l.val % 64, Nat.mod_lt _ (by decide)⟩ * wo p (ix2 l n)

end Terms

variable (fw : Fin 4 → FVec Ideal S512x256 .f32) (fo : Fin 4 → FVec Ideal S256x512 .f32) (c : Dev nD) (f0 : FVec Ideal S2x256x512 .f32)
  (f2 f3 : FVec Ideal S4x2x4x256x64 .bf16)

theorem q_at (p : Fin 4) (b : Fin 2) (h : Fin 4) (i : Fin 256) (d : Fin 64) :
    qHead (F := Ideal) h (qOf (F := Ideal) fw f0 p b) (ix2 i d) = (∑ e : Fin 512, f0 (ix3 b i e) * fw p (ix2 e ⟨64 * h.val + d.val, by have := h.isLt; have := d.isLt; omega⟩))
      * Ideal.ofBits .f32 0x3E000000#32 := by
  rw [qHead_at]
  unfold qOf
  rw [qproj_at]
  simp only [xOf_at, qRd_at]

theorem cOf_at (p : Fin 4) (b : Fin 2) (i : Fin 256) (l : Fin 256) :
    cOf (F := Ideal) fw f0 f2 f3 p b (ix2 i l) = ctxAt fw f0 f2 f3 p b ⟨l.val / 64, by have := l.isLt; omega⟩ i ⟨l.val % 64, Nat.mod_lt _ (by decide)⟩ := by
  unfold cOf ctxV ctxAt
  refine (head_at _ _ _ i ⟨l.val % 64, Nat.mod_lt _ (by decide)⟩ (kScore fw f0 f2 p b ⟨l.val / 64, by have := l.isLt; omega⟩ i) ?_).trans ?_
  · funext j
    unfold kScore
    simp only [q_at]
    refine congrArg (fun s => Scalar.select _ s _) (Finset.sum_congr rfl fun d _ => ?_)
    exact congrArg _ (kOf_at f2 p b _ j d).symm
  · exact Finset.sum_congr rfl fun j _ => congrArg _ (vOf_at f3 p b _ j _)

theorem outOf_at (b : Fin 2) (i : Fin 256) (n : Fin 512) :
    outOf (F := Ideal) fw fo c f0 f2 f3 b (ix3 0 i n) = ∑ p : Fin 4, partAt fw fo f0 f2 f3 b i n p := by
  unfold outOf
  rw [add_at, add_at, add_at, part_at]
  simp only [cOf_at, wOf_at]
  exact Attn.sum_ring c (partAt fw fo f0 f2 f3 b i n)

end Cert.KernelIdeal.Own
-- ==== Proof.KIn.lean ====
module

public import proofs.«01_k».proof.Proof.KVal
public import Idealize.ShloMosaic.Lib.StableHlo.ReadAt
public import Idealize.ShloMosaic.Lib.Pipeline.ValueKit.Point
public import Idealize.ShloMosaic.Lib.WritesUnit
public import Idealize.ShloMosaic.Lib.DynamicIndex

/-! What the body meets: the arrays a device holds, its keys and values its own batches split by device and head. And the
result array at the end, read at an index. -/

@[expose] public section

set_option maxHeartbeats 1000000

noncomputable section

namespace Cert.KernelIdeal.Own

open Idealize.ShloMosaic Idealize.ShloMosaic.TcCoe
open Cert.KernelIdeal Cert.KernelIdeal.Gen

/-- A device's first batch, as its index word is computed. -/
theorem start_word : ∀ c : Dev nD,
    Scalar.select
      (IntOp.cmpi CmpIPredicate.slt
        (IntOp.muli (IntOp.remui ArithUnit.host (IntOp.divui ArithUnit.host c.word 1#32) 4#32) 2#32) 0#32)
      (IntOp.addi (IntOp.muli (IntOp.remui ArithUnit.host (IntOp.divui ArithUnit.host c.word 1#32) 4#32) 2#32) 8#32)
      (IntOp.muli (IntOp.remui ArithUnit.host (IntOp.divui ArithUnit.host c.word 1#32) 4#32) 2#32) = BitVec.ofNat 32 (2 * c.val) := by
  decide +kernel

/-- Where the slice of a device's batches, split by device and head, sits in the whole array. -/
theorem slice_idx (s : Fin 4 → Int) (c : Dev nD) (h0 : s 0 = 2 * c.val) (p : Fin 4) (b : Fin 2) (h : Fin 4) (j : Fin 256) (d : Fin 64)
    (hr) (l0 l1 l2 l3) :
    (ix4 (n0 := 8) (n1 := 256) (n2 := 16) (n3 := 64) ⟨Host.clampedStart S8x256x16x64 S2x256x16x64 hr s 0 + b.val, l0⟩
      ⟨Host.clampedStart S8x256x16x64 S2x256x16x64 hr s 1 + j.val, l1⟩
      ⟨Host.clampedStart S8x256x16x64 S2x256x16x64 hr s 2 + (p.val * 4 + h.val), l2⟩
      ⟨Host.clampedStart S8x256x16x64 S2x256x16x64 hr s 3 + d.val, l3⟩)
      = ix4 (n0 := 8) (n1 := 256) (n2 := 16) (n3 := 64) ⟨2 * c.val + b.val, by have : c.val < 4 := c.isLt; have := b.isLt; omega⟩ j
          ⟨4 * p.val + h.val, by have := p.isLt; have := h.isLt; omega⟩ d := by
  have hc : c.val < 4 := c.isLt
  have e0 : Host.clampedStart S8x256x16x64 S2x256x16x64 hr s 0 = 2 * c.val := by
    show (min (max (s 0) 0) (6 : Int)).toNat = _
    omega
  have hz : ∀ a : Fin 4, a ≠ 0 → S8x256x16x64.size a - S2x256x16x64.size a = 0 := by decide
  have e (a : Fin 4) (ha : a ≠ 0) : Host.clampedStart S8x256x16x64 S2x256x16x64 hr s a = 0 := by
    show (min (max (s a) 0) ((S8x256x16x64.size a - S2x256x16x64.size a : ℕ) : Int)).toNat = 0
    rw [hz a ha]
    omega
  funext a; apply Fin.ext; fin_cases a
  · exact congrArg (· + b.val) e0
  · show _ + j.val = j.val; rw [e 1 (by decide)]; omega
  · show _ + (p.val * 4 + h.val) = 4 * p.val + h.val; rw [e 2 (by decide)]; omega
  · show _ + d.val = d.val; rw [e 3 (by decide)]; omega

section AnyFormat
variable {F : FTy → Type} [FloatOps F] (m : (ℓ : Loc nD τ sig) → Buf (Elt F) ℓ)

/-- Two stores, one to each half, read at an index. -/
theorem halves_at (f : A5.view.ty.Contents (Elt F)) (w : Fin 2 → Vec F S1x256x512 .f32) (older) (b : Fin 2) (i : Fin 256) (n : Fin 512) :
    A5.view.read (Elt F) (A5.view.writes (Elt F) f
      ((⟨Rect.unit (s := S2x256x512) ![1, 0, 0] S1x256x512.size inb_S2x256x512_S1x256x512_1_0_0, w 1⟩ : View.Piece (Elt F) S2x256x512 .f32) ::
        ⟨Rect.unit (s := S2x256x512) ![0, 0, 0] S1x256x512.size inb_S2x256x512_S1x256x512_0_0_0, w 0⟩ :: older)) (ix3 b i n) = w b (ix3 0 i n) := by
  match b with
  | 0 =>
    refine (View.read_writes_cons_unit_of_not_mem A5.view _ inb_S2x256x512_S1x256x512_1_0_0 _ _ (ix3 0 i n) rfl 0 (Or.inl Nat.zero_lt_one)).trans ?_
    refine View.read_writes_cons_unit_of_mem A5.view _ inb_S2x256x512_S1x256x512_0_0_0 _ _ (ix3 0 i n) (ix3 0 i n) rfl ?_
    intro a; fin_cases a
    · rfl
    · show i.val = 0 + i.val; omega
    · show n.val = 0 + n.val; omega
  | 1 =>
    refine View.read_writes_cons_unit_of_mem A5.view _ inb_S2x256x512_S1x256x512_1_0_0 _ _ (ix3 1 i n) (ix3 0 i n) rfl ?_
    intro a; fin_cases a
    · rfl
    · show i.val = 0 + i.val; omega
    · show n.val = 0 + n.val; omega

/-- The same, of any list that is those two stores over older ones. -/
theorem halves_of (f : A5.view.ty.Contents (Elt F)) (L : List (View.Piece (Elt F) S2x256x512 .f32)) (w : Fin 2 → Vec F S1x256x512 .f32) (older)
    (h : L = (⟨Rect.unit (s := S2x256x512) ![1, 0, 0] S1x256x512.size inb_S2x256x512_S1x256x512_1_0_0, w 1⟩ : View.Piece (Elt F) S2x256x512 .f32) ::
        ⟨Rect.unit (s := S2x256x512) ![0, 0, 0] S1x256x512.size inb_S2x256x512_S1x256x512_0_0_0, w 0⟩ :: older) (b : Fin 2) (i : Fin 256) (n : Fin 512) :
    A5.view.writes (Elt F) f L (ix3 b i n) = w b (ix3 0 i n) := by
  have e : ∀ g : A5.view.ty.Contents (Elt F), A5.view.read (Elt F) g = g := fun _ => rfl
  subst h
  exact (congrFun (e _) _).symm.trans (halves_at f w older b i n)

theorem outStg_at (c : Dev nD) (b : Fin 2) (i : Fin 256) (n : Fin 512) :
    outStg m c (ix3 b i n) = outOf (fW m) (fO m) c (stg0 m c) (stg2 m c) (stg3 m c) b (ix3 0 i n) := by
  obtain ⟨older, h⟩ := body_stores (fW m) (fO m) c (stg0 m c) (stg2 m c) (stg3 m c)
  unfold outStg
  exact halves_of (stg5 m c) (stores m c) (outOf (fW m) (fO m) c (stg0 m c) (stg2 m c) (stg3 m c)) older h b i n

attribute [local irreducible] outStg

theorem after_5 (c : Dev nD) (j : S2x256x512.Idx) : (dat m c).after 5 t0_0 j = outStg m c j := rfl

theorem arr_eq (c : Dev nD) : (dat m c).arrAt 5 cfg0.N = outStg m c := by
  refine (dat m c).arrAt_eq_of_after_last 5 t0_0 (by decide +kernel) (outStg m c) fun j => ?_
  exact after_5 m c j

end AnyFormat

variable (m : (ℓ : Loc nD τ sig) → Buf (Elt Ideal) ℓ)

theorem start_k (c : Dev nD) : StableHlo.upto (hostOps0 c) (V0 m c) 16 main_v8 = fun _ => BitVec.ofNat 32 (2 * c.val) := by
  funext i
  after_reads_at
  simp only [id_eq]
  pointwise
  exact start_word c
theorem start_v (c : Dev nD) : StableHlo.upto (hostOps0 c) (V0 m c) 27 main_v13 = fun _ => BitVec.ofNat 32 (2 * c.val) := by
  funext i
  after_reads_at
  simp only [id_eq]
  pointwise
  exact start_word c

/-- The keys a device's body meets: of its batch `b`, the head `4 * p + h`. -/
theorem k_at (c : Dev nD) (p : Fin 4) (b : Fin 2) (h : Fin 4) (j : Fin 256) (d : Fin 64) :
    V1 m c main_v17 (ix5 p b h j d) = m ((c.tc : Thread nD τ).loc main_arg2)
      (ix4 (n0 := 8) (n1 := 256) (n2 := 16) (n3 := 64) ⟨2 * c.val + b.val, by have : c.val < 4 := c.isLt; have := b.isLt; omega⟩ j
        ⟨4 * p.val + h.val, by have := p.isLt; have := h.isLt; omega⟩ d) := by
  unfold V1
  after_reads_at
  refine congrArg (m ((c.tc : Thread nD τ).loc main_arg2)) (slice_idx _ c ?_ p b h j d _ _ _ _ _)
  have hc : c.val < 4 := c.isLt
  show BitVec.toInt (StableHlo.upto (hostOps0 c) (V0 m c) 16 main_v8 _) = _
  rw [start_k, toInt_ofNat_of_lt (by omega)]; push_cast; rfl
/-- The values, likewise. -/
theorem v_at (c : Dev nD) (p : Fin 4) (b : Fin 2) (h : Fin 4) (j : Fin 256) (d : Fin 64) :
    V1 m c main_v20 (ix5 p b h j d) = m ((c.tc : Thread nD τ).loc main_arg3)
      (ix4 (n0 := 8) (n1 := 256) (n2 := 16) (n3 := 64) ⟨2 * c.val + b.val, by have : c.val < 4 := c.isLt; have := b.isLt; omega⟩ j
        ⟨4 * p.val + h.val, by have := p.isLt; have := h.isLt; omega⟩ d) := by
  unfold V1
  after_reads_at
  refine congrArg (m ((c.tc : Thread nD τ).loc main_arg3)) (slice_idx _ c ?_ p b h j d _ _ _ _ _)
  have hc : c.val < 4 := c.isLt
  show BitVec.toInt (StableHlo.upto (hostOps0 c) (V0 m c) 27 main_v13 _) = _
  rw [start_v, toInt_ofNat_of_lt (by omega)]; push_cast; rfl

theorem win_idx : win0_0.index t0_0 = ![0, 0, 0] ∧ win0_1.index t0_0 = ![0, 0] ∧ win0_2.index t0_0 = ![0, 0, 0, 0, 0]
    ∧ win0_3.index t0_0 = ![0, 0, 0, 0, 0] ∧ win0_4.index t0_0 = ![0, 0] := by decide +kernel

theorem stg0_eq (c : Dev nD) : stg0 m c = m ((c.tc : Thread nD τ).loc main_arg0) := by
  refine Eq.trans ?_ (V1_of m c main_arg0 (by decide))
  unfold stg0
  blk_ext! [win_idx]
theorem stg1_eq (c : Dev nD) : stg1 m c = m ((c.tc : Thread nD τ).loc main_arg1) := by
  refine Eq.trans ?_ (V1_of m c main_arg1 (by decide))
  unfold stg1
  blk_ext! [win_idx]
theorem stg2_eq (c : Dev nD) : stg2 m c = V1 m c main_v17 := by
  unfold stg2
  blk_ext! [win_idx]
theorem stg3_eq (c : Dev nD) : stg3 m c = V1 m c main_v20 := by
  unfold stg3
  blk_ext! [win_idx]
theorem stg4_eq (c : Dev nD) : stg4 m c = m ((c.tc : Thread nD τ).loc main_arg4) := by
  refine Eq.trans ?_ (V1_of m c main_arg4 (by decide))
  unfold stg4
  blk_ext! [win_idx]

/-- The result array of device `c`, at an index: the four devices' parts of its batch. -/
theorem result_at (c : Dev nD) (b : Fin 2) (i : Fin 256) (n : Fin 512) :
    (dat m c).arrAt 5 cfg0.N (ix3 b i n) = (∑ p : Fin 4, partAt (fun p => m ((Dev.tc p : Thread nD τ).loc main_arg1))
      (fun p => m ((Dev.tc p : Thread nD τ).loc main_arg4)) (m ((c.tc : Thread nD τ).loc main_arg0)) (V1 m c main_v17) (V1 m c main_v20) b i n p : EReal) := by
  rw [arr_eq]
  refine (outStg_at m c b i n).trans ?_
  have e1 : fW m = fun p => m ((Dev.tc p : Thread nD τ).loc main_arg1) := funext fun p => stg1_eq m p
  have e4 : fO m = fun p => m ((Dev.tc p : Thread nD τ).loc main_arg4) := funext fun p => stg4_eq m p
  rw [e1, e4, stg0_eq, stg2_eq, stg3_eq]
  exact outOf_at _ _ c _ _ _ b i n

end Cert.KernelIdeal.Own
-- ==== Proof.RefVal.lean ====
module

public import proofs.«01_k».proof.Proof.Gen.ReferenceIdeal
public import proofs.«01_k».proof.Proof.Gen.ReferenceIdeal.Run
public import proofs.«01_k».proof.Proof.Attn
public import Idealize.ShloMosaic.Lib.Routing.OpsOrder
public import Idealize.ShloMosaic.Lib.Pointwise

/-! The reference's result, read at an index. -/

@[expose] public section

set_option maxHeartbeats 1000000

noncomputable section

namespace Cert.ReferenceIdeal.Own

open Idealize.ShloMosaic Idealize.ShloMosaic.TcCoe
open Cert.ReferenceIdeal Cert.ReferenceIdeal.Gen

/-- The block of 64 a position lies in. -/
def blkOf : IVec S256 32 := select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
/-- The divisor three. -/
def three : IVec S_ 32 := select (cmpi .eq (id (constantI S_ 32 3#32)) (constantI S_ 32 0#32)) (constantI S_ 32 1#32) (id (constantI S_ 32 3#32))
/-- Query block plus key block, modulo three. -/
def rem3 : IVec S256x256 32 := Host.remsi (addi (broadcastInDim S256x256 ![0, 1] bcast_S256x1_S256x256_0_1 (broadcastInDim S256x1 ![0] bcast_S256_S256x1_0 blkOf)) (broadcastInDim S256x256 ![0, 1] bcast_S1x256_S256x256_0_1 (broadcastInDim S1x256 ![1] bcast_S256_S1x256_1 blkOf))) (broadcastInDim S256x256 ![] bcast_S_S256x256 three)
/-- Which keys a query attends to. -/
def mask : IVec S256x256 1 := ori (ori (cmpi .eq (broadcastInDim S256x256 ![0, 1] bcast_S256x1_S256x256_0_1 (broadcastInDim S256x1 ![0] bcast_S256_S256x1_0 blkOf)) (broadcastInDim S256x256 ![0, 1] bcast_S1x256_S256x256_0_1 (broadcastInDim S1x256 ![1] bcast_S256_S1x256_1 blkOf))) (broadcastInDim S256x256 ![0, 1] bcast_S1x256_S256x256_0_1 (cmpi .eq (broadcastInDim S1x256 ![1] bcast_S256_S1x256_1 blkOf) (broadcastInDim S1x256 ![] bcast_S_S1x256 (constantI S_ 32 0#32))))) (cmpi .eq (select (andi (cmpi .ne (cmpi .slt rem3 (broadcastInDim S256x256 ![] bcast_S_S256x256 (constantI S_ 32 0#32))) (broadcastInDim S256x256 ![] bcast_S_S256x256 (cmpi .slt three (constantI S_ 32 0#32)))) (cmpi .ne rem3 (broadcastInDim S256x256 ![] bcast_S_S256x256 (constantI S_ 32 0#32)))) (addi rem3 (broadcastInDim S256x256 ![] bcast_S_S256x256 three)) rem3) (broadcastInDim S256x256 ![] bcast_S_S256x256 (constantI S_ 32 0#32)))
/-- Which queries attend to some key. -/
def keep : IVec S256 1 := Host.reduce IntOp.ori mask (constantI S_ 1 0#1) reducesTo_S256x256_S256_d1 h_S_

section Terms
variable (x : FVec Ideal S8x256x512 .f32) (wq : FVec Ideal S512x1024 .f32) (k v : FVec Ideal S8x256x16x64 .f32) (wo : FVec Ideal S1024x512 .f32)

/-- The masked scores. -/
def score : FVec Ideal S8x16x256x256 .f32 := select (broadcastInDim S8x16x256x256 ![0, 1, 2, 3] bcast_S1x1x256x256_S8x16x256x256_0_1_2_3 (broadcastInDim S1x1x256x256 ![2, 3] bcast_S256x256_S1x1x256x256_2_3 mask)) (mulf (Host.dotGeneral dot_S8x256x16x64_S8x256x16x64_S8x16x256x256_3_3_1_1_02_02 none (shapeCast _ (Host.dotGeneral dot_S8x256x512_S512x1024_S8x256x1024_2_0_01_1_n_n none x wq) shapeCasts_S8x256x1024_S8x256x16x64) k) (broadcastInDim S8x16x256x256 ![] bcast_S_S8x16x256x256 (constant S_ .f32 0x3E000000#32))) (broadcastInDim S8x16x256x256 ![] bcast_S_S8x16x256x256 (id (constant S_ .f32 0xCE6E6B28#32)))
/-- Exponentials of the scores less their maximum, of any scores. -/
def exps (s : FVec Ideal S8x16x256x256 .f32) : FVec Ideal S8x16x256x256 .f32 := Host.exp (subf s (broadcastInDim S8x16x256x256 ![0, 1, 2, 3] bcast_S8x16x256x1_S8x16x256x256_0_1_2_3 (broadcastInDim S8x16x256x1 ![0, 1, 2] bcast_S8x16x256_S8x16x256x1_0_1_2 (Host.reduce FloatOps.maximumf s (constant S_ .f32 0xFF800000#32) reducesTo_S8x16x256x256_S8x16x256_d3 h_S_))))
/-- The attention weights, of any exponentials. -/
def weights (e : FVec Ideal S8x16x256x256 .f32) : FVec Ideal S8x16x256x256 .f32 := select (broadcastInDim S8x16x256x256 ![0, 1, 2, 3] bcast_S1x1x256x1_S8x16x256x256_0_1_2_3 (broadcastInDim S1x1x256x1 ![2] bcast_S256_S1x1x256x1_2 keep)) (Host.divf e (broadcastInDim S8x16x256x256 ![0, 1, 2, 3] bcast_S8x16x256x1_S8x16x256x256_0_1_2_3 (select (broadcastInDim S8x16x256x1 ![0, 1, 2, 3] bcast_S1x1x256x1_S8x16x256x1_0_1_2_3 (broadcastInDim S1x1x256x1 ![2] bcast_S256_S1x1x256x1_2 keep)) (broadcastInDim S8x16x256x1 ![0, 1, 2] bcast_S8x16x256_S8x16x256x1_0_1_2 (Host.reduceAdd e (constant S_ .f32 0x00000000#32) reducesTo_S8x16x256x256_S8x16x256_d3 h_S_)) (broadcastInDim S8x16x256x1 ![] bcast_S_S8x16x256x1 (id (constant S_ .f32 0x3F800000#32)))))) (broadcastInDim S8x16x256x256 ![] bcast_S_S8x16x256x256 (id (constant S_ .f32 0x00000000#32)))
/-- The result, of any weights. -/
def outOf (w : FVec Ideal S8x16x256x256 .f32) : FVec Ideal S8x256x512 .f32 := Host.dotGeneral dot_S8x256x1024_S1024x512_S8x256x512_2_0_01_1_n_n none (shapeCast _ (transpose S8x256x16x64 [0, 3, 1, 2] (Host.dotGeneral dot_S8x256x16x64_S8x16x256x256_S8x16x64x256_1_3_3_2_02_01 none v w) transposes_S8x16x64x256_S8x256x16x64_0_3_1_2) shapeCasts_S8x256x16x64_S8x256x1024) wo

end Terms

theorem res_eq (m : (ℓ : Loc nD τ sig) → Buf (Elt Ideal) ℓ) (c : Dev nD) :
    Value.res_main_v44 m c = outOf (m ((c.tc : Thread nD τ).loc main_arg3)) (m ((c.tc : Thread nD τ).loc main_arg4))
      (weights (exps (score (m ((c.tc : Thread nD τ).loc main_arg0)) (m ((c.tc : Thread nD τ).loc main_arg1)) (m ((c.tc : Thread nD τ).loc main_arg2))))) := rfl

theorem out_at (v : FVec Ideal S8x256x16x64 .f32) (wo : FVec Ideal S1024x512 .f32) (w : FVec Ideal S8x16x256x256 .f32) (b : Fin 8) (i : Fin 256) (n : Fin 512) :
    outOf v wo w (ix3 b i n) = ∑ l : Fin 1024, (∑ j : Fin 256,
      v (ix4 b j ⟨l.val / 64, by have := l.isLt; omega⟩ ⟨l.val % 64, Nat.mod_lt _ (by decide)⟩)
        * w (ix4 b ⟨l.val / 64, by have := l.isLt; omega⟩ i j)) * wo (ix2 l n) := by
  pointwise [outOf]

theorem blk_at (i : Fin 256) : blkOf (ix1 i) = BitVec.ofNat 32 (i.val / 64) := by
  pointwise [blkOf]
  simp only [id, constantI]
  revert i; decide +kernel

theorem mask_at (i j : Fin 256) : mask (ix2 i j) = Attn.mk i j := by
  rw [Attn.mk_eq]
  pointwise [mask, rem3, three]
  rw [blk_at, blk_at]
  simp only [id, constantI]
  generalize hp : (⟨i.val / 64, by have := i.isLt; omega⟩ : Fin 4) = p
  generalize hr : (⟨j.val / 64, by have := j.isLt; omega⟩ : Fin 4) = r
  rw [show i.val / 64 = p.val from congrArg Fin.val hp, show j.val / 64 = r.val from congrArg Fin.val hr]
  clear hp hr
  revert p r; decide +kernel

theorem keep_at (i : Fin 256) : keep (ix1 i) = 1#1 := by
  pointwise [keep]
  rw [Routing.fold_ori]
  exact ⟨i, Finset.mem_univ _, by rw [mask_at]; simp [Attn.mk]⟩

theorem score_at (x : FVec Ideal S8x256x512 .f32) (wq : FVec Ideal S512x1024 .f32) (k : FVec Ideal S8x256x16x64 .f32) (b : Fin 8) (h : Fin 16) (i j : Fin 256) :
    score x wq k (ix4 b h i j) = Scalar.select (Attn.mk i j)
      ((∑ d : Fin 64, (∑ e : Fin 512, x (ix3 b i e) * wq (ix2 e ⟨h.val * 64 + d.val, by have := h.isLt; have := d.isLt; omega⟩)) * k (ix4 b j h d))
        * Ideal.ofBits .f32 0x3E000000#32) (Ideal.ofBits .f32 0xCE6E6B28#32) := by
  pointwise [score]
  rw [mask_at]
  rfl

theorem exps_at (s : FVec Ideal S8x16x256x256 .f32) (b : Fin 8) (h : Fin 16) (i j : Fin 256) :
    exps s (ix4 b h i j) = Ideal.exp (s (ix4 b h i j) - Finset.univ.fold max (⊥ : EReal) fun y : Fin 256 => s (ix4 b h i y)) := by
  pointwise [exps]
  rw [Attn.negInf]
theorem weights_at (s : FVec Ideal S8x16x256x256 .f32) (b : Fin 8) (h : Fin 16) (i j : Fin 256) :
    weights s (ix4 b h i j) = Ideal.div (s (ix4 b h i j)) (∑ y : Fin 256, s (ix4 b h i y)) := by
  pointwise [weights]
  rw [keep_at]
  rfl

/-- The reference's result at an index, when the scores are real: the attention with no maximum subtracted. -/
theorem res_at (x : FVec Ideal S8x256x512 .f32) (wq : FVec Ideal S512x1024 .f32) (k v : FVec Ideal S8x256x16x64 .f32) (wo : FVec Ideal S1024x512 .f32)
    (b : Fin 8) (hs : ∀ h i j, Attn.IsR (score x wq k (ix4 b h i j))) (i : Fin 256) (n : Fin 512) :
    outOf v wo (weights (exps (score x wq k))) (ix3 b i n) = ∑ l : Fin 1024, (∑ j : Fin 256,
      v (ix4 b j ⟨l.val / 64, by have := l.isLt; omega⟩ ⟨l.val % 64, Nat.mod_lt _ (by decide)⟩)
        * (Ideal.exp (score x wq k (ix4 b ⟨l.val / 64, by have := l.isLt; omega⟩ i j))
          * Ideal.div 1 (∑ y : Fin 256, Ideal.exp (score x wq k (ix4 b ⟨l.val / 64, by have := l.isLt; omega⟩ i y)))))
      * wo (ix2 l n) := by
  rw [out_at]
  refine Finset.sum_congr rfl fun l _ => ?_
  refine congrArg (· * _) (Finset.sum_congr rfl fun j _ => ?_)
  rw [weights_at]
  simp only [exps_at]
  exact congrArg _ (Attn.softmax_shift (fun y => hs _ i y) j)

end Cert.ReferenceIdeal.Own
-- ==== Proof.Agree.lean ====
module

public import proofs.«01_k».proof.Defs
public import proofs.«01_k».proof.Proof.KIn
public import proofs.«01_k».proof.Proof.RefVal
public import Idealize.ShloMosaic.Lib.ReduceAll
public import Idealize.ShloMosaic.Lib.Layout

/-! The kernel's result is its block of the reference's. -/

@[expose] public section

set_option maxHeartbeats 1000000

noncomputable section

namespace Cert.Agree

open Idealize.ShloMosaic Idealize.ShloMosaic.TcCoe

abbrev X8 : Shape := ⟨3, ![8, 256, 512]⟩
abbrev X2 : Shape := ⟨3, ![2, 256, 512]⟩
abbrev Wq4 : Shape := ⟨2, ![512, 1024]⟩
abbrev Wq1 : Shape := ⟨2, ![512, 256]⟩
abbrev Wo4 : Shape := ⟨2, ![1024, 512]⟩
abbrev Wo1 : Shape := ⟨2, ![256, 512]⟩
abbrev KV : Shape := ⟨4, ![8, 256, 16, 64]⟩

/-! ## Blocks at an index -/

theorem block_x (c : Fin 4) (v : X8.Idx → EReal) (b : Fin 2) (i : Fin 256) (e : Fin 512) :
    Layout.block X2 X8 0 4 c v (by decide) (ix3 b i e) = v (ix3 (n0 := 8) ⟨2 * c.val + b.val, by have := c.isLt; have := b.isLt; omega⟩ i e) := by
  refine congrArg v ?_
  funext a; apply Fin.ext; fin_cases a
  · show c.val * 2 + b.val = 2 * c.val + b.val; omega
  · rfl
  · rfl
theorem block_wq (c : Fin 4) (v : Wq4.Idx → EReal) (e : Fin 512) (l : Fin 256) :
    Layout.block Wq1 Wq4 1 4 c v (by decide) (ix2 e l) = v (ix2 (n1 := 1024) e ⟨256 * c.val + l.val, by have := c.isLt; have := l.isLt; omega⟩) := by
  refine congrArg v ?_
  funext a; apply Fin.ext; fin_cases a
  · rfl
  · show c.val * 256 + l.val = 256 * c.val + l.val; omega
theorem block_wo (c : Fin 4) (v : Wo4.Idx → EReal) (l : Fin 256) (n : Fin 512) :
    Layout.block Wo1 Wo4 0 4 c v (by decide) (ix2 l n) = v (ix2 (n0 := 1024) ⟨256 * c.val + l.val, by have := c.isLt; have := l.isLt; omega⟩ n) := by
  refine congrArg v ?_
  funext a; apply Fin.ext; fin_cases a
  · show c.val * 256 + l.val = 256 * c.val + l.val; omega
  · rfl

/-! ## The two values -/

section Values
variable (X : FVec Ideal X8 .f32) (Wq : FVec Ideal Wq4 .f32) (K V : FVec Ideal KV .f32) (Wo : FVec Ideal Wo4 .f32)
  (x : FVec Ideal X2 .f32) (wq : Fin 4 → FVec Ideal Wq1 .f32) (wo : Fin 4 → FVec Ideal Wo1 .f32)
  (k v : FVec Ideal Cert.KernelIdeal.S4x2x4x256x64 .bf16) (c : Fin 4)

/-- The scores of a device's batches are the reference's, and real, when the inputs to them are. -/
theorem score_eq (hx : ∀ b i e, x (ix3 b i e) = X (ix3 (n0 := 8) ⟨2 * c.val + b.val, by have := c.isLt; have := b.isLt; omega⟩ i e))
    (hq : ∀ p e l, wq p (ix2 e l) = Wq (ix2 (n1 := 1024) e ⟨256 * p.val + l.val, by have := p.isLt; have := l.isLt; omega⟩))
    (hk : ∀ p b h j d, k (ix5 p b h j d) = K (ix4 (n0 := 8) (n2 := 16) ⟨2 * c.val + b.val, by have := c.isLt; have := b.isLt; omega⟩ j
      ⟨4 * p.val + h.val, by have := p.isLt; have := h.isLt; omega⟩ d))
    (rx : ∀ i, Attn.IsR (x i)) (rq : ∀ p i, Attn.IsR (wq p i)) (rk : ∀ i, Attn.IsR (K i))
    (p : Fin 4) (b : Fin 2) (h : Fin 4) (i j : Fin 256) :
    Cert.KernelIdeal.Own.kScore wq x k p b h i j = Cert.ReferenceIdeal.Own.score X Wq K
      (ix4 (n0 := 8) (n1 := 16) ⟨2 * c.val + b.val, by have := c.isLt; have := b.isLt; omega⟩ ⟨4 * p.val + h.val, by have := p.isLt; have := h.isLt; omega⟩ i j)
    ∧ Attn.IsR (Cert.KernelIdeal.Own.kScore wq x k p b h i j) := by
  have rQ (d : Fin 64) : Attn.IsR (∑ e : Fin 512, x (ix3 b i e) * wq p (ix2 e ⟨64 * h.val + d.val, by have := h.isLt; have := d.isLt; omega⟩)) :=
    Attn.IsR.sum fun e => (rx _).mul (rq p _)
  have rK (d : Fin 64) : Attn.IsR (k (ix5 p b h j d)) := by rw [hk]; exact rk _
  constructor
  · rw [Cert.ReferenceIdeal.Own.score_at]
    unfold Cert.KernelIdeal.Own.kScore
    rw [Attn.sum_scale rQ rK Attn.isR_eighth]
    refine congrArg (fun s => Scalar.select _ (s * _) _) (Finset.sum_congr rfl fun d _ => ?_)
    rw [hk]
    refine congrArg (· * _) (Finset.sum_congr rfl fun e _ => ?_)
    rw [hx, hq]
    refine congrArg (fun l => _ * Wq (ix2 e l)) (Fin.ext ?_)
    show 256 * p.val + (64 * h.val + d.val) = (4 * p.val + h.val) * 64 + d.val
    omega
  · unfold Cert.KernelIdeal.Own.kScore
    exact Attn.IsR.select (Attn.IsR.sum fun d => ((rQ d).mul Attn.isR_eighth).mul (rK d)) Attn.isR_neg

/-- The devices' parts sum to the reference's result. -/
theorem parts_eq (hx : ∀ b i e, x (ix3 b i e) = X (ix3 (n0 := 8) ⟨2 * c.val + b.val, by have := c.isLt; have := b.isLt; omega⟩ i e))
    (hq : ∀ p e l, wq p (ix2 e l) = Wq (ix2 (n1 := 1024) e ⟨256 * p.val + l.val, by have := p.isLt; have := l.isLt; omega⟩))
    (ho : ∀ p l n, wo p (ix2 l n) = Wo (ix2 (n0 := 1024) ⟨256 * p.val + l.val, by have := p.isLt; have := l.isLt; omega⟩ n))
    (hk : ∀ p b h j d, k (ix5 p b h j d) = K (ix4 (n0 := 8) (n2 := 16) ⟨2 * c.val + b.val, by have := c.isLt; have := b.isLt; omega⟩ j
      ⟨4 * p.val + h.val, by have := p.isLt; have := h.isLt; omega⟩ d))
    (hv : ∀ p b h j d, v (ix5 p b h j d) = V (ix4 (n0 := 8) (n2 := 16) ⟨2 * c.val + b.val, by have := c.isLt; have := b.isLt; omega⟩ j
      ⟨4 * p.val + h.val, by have := p.isLt; have := h.isLt; omega⟩ d))
    (rx : ∀ i, Attn.IsR (x i)) (rq : ∀ p i, Attn.IsR (wq p i)) (rk : ∀ i, Attn.IsR (K i))
    (b : Fin 2) (i : Fin 256) (n : Fin 512) :
    ∑ p : Fin 4, Cert.KernelIdeal.Own.partAt wq wo x k v b i n p
      = Cert.ReferenceIdeal.Own.outOf V Wo (Cert.ReferenceIdeal.Own.weights (Cert.ReferenceIdeal.Own.exps (Cert.ReferenceIdeal.Own.score X Wq K)))
          (ix3 (n0 := 8) ⟨2 * c.val + b.val, by have := c.isLt; have := b.isLt; omega⟩ i n) := by
  have hs := score_eq X Wq K x wq k c hx hq hk rx rq rk
  rw [Cert.ReferenceIdeal.Own.res_at, Attn.sum_devs]
  · refine Finset.sum_congr rfl fun p _ => ?_
    unfold Cert.KernelIdeal.Own.partAt
    refine Finset.sum_congr rfl fun l _ => ?_
    have hp := p.isLt
    have hl := l.isLt
    have e1 : (⟨(256 * p.val + l.val) / 64, by omega⟩ : Fin 16) = ⟨4 * p.val + l.val / 64, by omega⟩ := Fin.ext (by show (256 * p.val + l.val) / 64 = 4 * p.val + l.val / 64; omega)
    have e2 : (⟨(256 * p.val + l.val) % 64, Nat.mod_lt _ (by decide)⟩ : Fin 64) = ⟨l.val % 64, Nat.mod_lt _ (by decide)⟩ :=
      Fin.ext (by show (256 * p.val + l.val) % 64 = l.val % 64; omega)
    rw [ho]
    refine congrArg (· * _) ?_
    unfold Cert.KernelIdeal.Own.ctxAt
    refine Finset.sum_congr rfl fun j _ => ?_
    simp only [e1, e2]
    rw [mul_comm, hv]
    simp only [fun y => (hs p b ⟨l.val / 64, by omega⟩ i y).1]
  · intro h i j
    have hh := h.isLt
    have := (hs ⟨h.val / 4, by omega⟩ b ⟨h.val % 4, Nat.mod_lt _ (by decide)⟩ i j)
    rw [this.1] at this
    have e : (⟨4 * (h.val / 4) + h.val % 4, by omega⟩ : Fin 16) = h := Fin.ext (by show 4 * (h.val / 4) + h.val % 4 = h.val; omega)
    simp only [e] at this
    exact this.2

end Values

/-! ## The precondition -/

/-- An element whose magnitude is found below infinity is a real. -/
theorem isR_of_bit {s : Shape} (x : FVec Ideal s .f32) (dims) (h : (⟨0, ![]⟩ : Shape).BroadcastsInDim s dims) (i : s.Idx)
    (e : cmpf .olt (Host.absf x) (broadcastInDim s dims h (constant (F := Ideal) ⟨0, ![]⟩ .f32 0x7F800000#32)) i = 1#1) : Attn.IsR (x i) := by
  have e' : Ideal.cmp .olt (max (x i : EReal) (-(x i : EReal))) (Ideal.ofBits .f32 0x7F800000#32) = 1#1 := e
  rw [Attn.posInf] at e'
  unfold Ideal.cmp at e'
  refine Attn.isR_of_abs_lt ?_
  by_contra hn
  simp [hn] at e'

instance pre_facts : Cert.Pre_finite_KernelIdeal.Facts where
  bcast_S_S2x256x512 := by decide
  reducesTo_S2x256x512_S_d0_1_2 := by decide
  h_S_ := by decide
  bcast_S_S512x256 := by decide
  reducesTo_S512x256_S_d0_1 := by decide
  bcast_S_S8x256x16x64 := by decide
  reducesTo_S8x256x16x64_S_d0_1_2_3 := by decide
instance pre_facts_ref : Cert.Pre_finite_ReferenceIdeal.Facts where
  bcast_S_S8x256x512 := by decide
  reducesTo_S8x256x512_S_d0_1_2 := by decide
  h_S_ := by decide
  bcast_S_S512x1024 := by decide
  reducesTo_S512x1024_S_d0_1 := by decide
  bcast_S_S8x256x16x64 := by decide
  reducesTo_S8x256x16x64_S_d0_1_2_3 := by decide

instance : Subsingleton (Cert.Pre_finite_KernelIdeal.S_).Idx := ⟨fun a b => funext fun i => i.elim0⟩

theorem and_bits {a b : BitVec 1} (h : IntOp.andi a b = 1#1) : a = 1#1 ∧ b = 1#1 := by
  revert a b; decide

/-- What the precondition says: the input, the query weights and the keys of the device are real. -/
theorem real_of_pre (x : FVec Ideal X2 .f32) (wq : FVec Ideal Wq1 .f32) (k v : FVec Ideal KV .f32) (wo : FVec Ideal Wo1 .f32)
    (h : Cert.Pre_finite_KernelIdeal.fn x wq k v wo = fun _ => 1#1) :
    (∀ i, Attn.IsR (x i)) ∧ (∀ i, Attn.IsR (wq i)) ∧ ∀ i, Attn.IsR (k i) := by
  have h0 := congrFun h ix0
  obtain ⟨h1, h2⟩ := and_bits h0
  obtain ⟨h3, h4⟩ := and_bits h1
  exact ⟨fun i => isR_of_bit x _ _ i (Host.reduce_andi_all _ _ _ _ _ h3 i), fun i => isR_of_bit wq _ _ i (Host.reduce_andi_all _ _ _ _ _ h4 i),
    fun i => isR_of_bit k _ _ i (Host.reduce_andi_all _ _ _ _ _ h2 i)⟩

end Cert.Agree
-- ==== Proof.lean ====
/- The claims of this certificate, assembled: each program's run from its own module, read at the claim's instance. -/
module

public import proofs.«01_k».proof.Defs
public import proofs.«01_k».proof.Proof.Run
public import proofs.«01_k».proof.Proof.RunK
public import proofs.«01_k».proof.Proof.Agree
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as printed runs, keeps its arguments, and leaves all counters at zero. -/
theorem kernel_frame : @Cert.quiescent_Kernel Cert.Kernel.Gen.facts := fun m g _ =>
  (θ_run Cert.Kernel.defs _ _).mono
    (fun _ h => ⟨fun c => have e := h.1 c; ⟨e.1, e.2.1, e.2.2.1, e.2.2.2.1, e.2.2.2.2.1⟩, h.2⟩) (Cert.Kernel.Own.run_main m g)

/-- The kernel over the reals runs, keeps its arguments, and leaves all counters at zero. -/
theorem ideal_frame : @Cert.quiescent_KernelIdeal Cert.KernelIdeal.Gen.facts := fun m g _ =>
  (θ_run Cert.KernelIdeal.defs _ _).mono
    (fun _ h => ⟨fun c => have e := h.1 c; ⟨e.1, e.2.1, e.2.2.1, e.2.2.2.1, e.2.2.2.2.1⟩, h.2⟩) (Cert.KernelIdeal.Own.run_main m g)

/-- The reference has no semaphores at all, so every run of it ends with all counters at zero. -/
theorem reference_frame : @Cert.quiescent_ReferenceIdeal Cert.ReferenceIdeal.Gen.facts := fun m g _ =>
  (θ_run Cert.ReferenceIdeal.defs _ _).mono
    (fun _ h => ⟨fun c => (h c).2, sem_eq_zero_of_no_sems (by decide) _⟩) (Cert.ReferenceIdeal.Value.run m g)

/-- Device `c`'s result array is its block of the reference's result, when every device's input, query weights and keys are finite. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_KernelIdeal m)
    (h : ∀ c : Dev Cert.KernelIdeal.nD,
      m ((c.tc : Thread Cert.KernelIdeal.nD Cert.KernelIdeal.τ).loc Cert.KernelIdeal.main_arg0) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4)))
    (c : Dev Cert.KernelIdeal.nD) :
    (Cert.KernelIdeal.Own.dat m c).arrAt 5 Cert.KernelIdeal.cfg0.N
      = Layout.block ⟨3, ![2, 256, 512]⟩ ⟨3, ![8, 256, 512]⟩ 0 4 c (Cert.ReferenceIdeal.Value.res_main_v44 m' 0) := by
  have hr := fun p => Cert.Agree.real_of_pre _ _ _ _ _ (hpre p)
  funext y
  rw [show y = ix3 (n0 := 2) (n1 := 256) (n2 := 512) (y 0) (y 1) (y 2) from by funext a; fin_cases a <;> rfl]
  refine (Cert.KernelIdeal.Own.result_at m c (y 0) (y 1) (y 2)).trans ?_
  refine Eq.trans ?_ (Cert.Agree.block_x c (Cert.ReferenceIdeal.Value.res_main_v44 m' 0) (y 0) (y 1) (y 2)).symm
  rw [Cert.ReferenceIdeal.Own.res_eq]
  refine Cert.Agree.parts_eq _ _ _ _ _ _ _ _ _ _ c (fun b i e => ?_) (fun p e l => ?_) (fun p l n => ?_) (fun p b h' j d => ?_) (fun p b h' j d => ?_)
    (hr c).1 (fun p => (hr p).2.1) (fun i => ?_) (y 0) (y 1) (y 2)
  · exact (congrFun (h c).1 _).trans (Cert.Agree.block_x c _ b i e)
  · exact (congrFun (h p).2.1 _).trans (Cert.Agree.block_wq p _ e l)
  · exact (congrFun (h p).2.2.2.2 _).trans (Cert.Agree.block_wo p _ l n)
  · exact (Cert.KernelIdeal.Own.k_at m c p b h' j d).trans (congrFun (h c).2.2.1 _)
  · exact (Cert.KernelIdeal.Own.v_at m c p b h' j d).trans (congrFun (h c).2.2.2.1 _)
  · exact (congrFun (h c).2.2.1 i) ▸ (hr c).2.2 i

/-- Over the reals, the kernel on four devices computes what the reference does, each device its own block of it. -/
theorem algebraic : @Cert.algebraic_KernelIdeal_ReferenceIdeal_pre_finite_KernelIdeal Cert.KernelIdeal.Gen.facts Cert.ReferenceIdeal.Gen.facts Cert.Agree.pre_facts := by
  intro m g m' g' hpre h
  refine ⟨Cert.ReferenceIdeal.Value.res_main_v44 m' 0, ?_, ?_⟩
  · refine (θ_run Cert.KernelIdeal.defs _ _).mono (fun _ hr c => ?_) (Cert.KernelIdeal.Own.run_main m g)
    obtain ⟨e0, e1, e2, e3, e4, e5⟩ := hr.1 c
    exact ⟨e5.trans (value m m' hpre h c), e0, e1, e2, e3, e4⟩
  · exact (θ_run Cert.ReferenceIdeal.defs _ _).mono (fun _ hr => hr 0) (Cert.ReferenceIdeal.Value.run m' g')

theorem claim : Cert.Claim :=
  ⟨Cert.Kernel.Gen.facts, Cert.KernelIdeal.Gen.facts, Cert.ReferenceIdeal.Gen.facts, Cert.Agree.pre_facts, Cert.Agree.pre_facts_ref,
    kernel_frame, ideal_frame, fun m g _ => ideal_frame m g trivial, reference_frame, fun m g _ => reference_frame m g trivial, trivial, algebraic⟩

end Cert.Proof

end
